-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![32, 256, 512]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 512]⟩ ⟨2, ![512, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v46) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x32 : Shape := ⟨2, ![256, 32]⟩
abbrev S512x1 : Shape := ⟨2, ![512, 1]⟩
abbrev S4x256x512 : Shape := ⟨3, ![4, 256, 512]⟩
abbrev S256x512 : Shape := ⟨2, ![256, 512]⟩
abbrev S64x512 : Shape := ⟨2, ![64, 512]⟩
abbrev S256x2048 : Shape := ⟨2, ![256, 2048]⟩
abbrev S512x4 : Shape := ⟨2, ![512, 4]⟩
abbrev S8x64x512 : Shape := ⟨3, ![8, 64, 512]⟩
abbrev S8 : Shape := ⟨1, ![8]⟩
abbrev S_ : Shape := ⟨0, ![]⟩
abbrev S512x32 : Shape := ⟨2, ![512, 32]⟩
abbrev S512 : Shape := ⟨1, ![512]⟩
abbrev S1x256x512 : Shape := ⟨3, ![1, 256, 512]⟩
abbrev S64x256 : Shape := ⟨2, ![64, 256]⟩
abbrev S64x2048 : Shape := ⟨2, ![64, 2048]⟩
abbrev S64x4 : Shape := ⟨2, ![64, 4]⟩
abbrev S64x1 : Shape := ⟨2, ![64, 1]⟩
abbrev S1x64x512 : Shape := ⟨3, ![1, 64, 512]⟩
abbrev S1 : Shape := ⟨1, ![1]⟩

abbrev nBuf : Space → Nat
  | .hbm => 6
  | .vmem => 11
  | .smem => 0
  | _ => 0

abbrev bufTy : (tb : Table) → Fin (tcTables nBuf tb) → BufTy
  | .hbm, ⟨0, _⟩ => ⟨S512x256, .bf16⟩
  | .hbm, ⟨1, _⟩ => ⟨S256x32, .bf16⟩
  | .hbm, ⟨2, _⟩ => ⟨S512x1, .i32⟩
  | .hbm, ⟨3, _⟩ => ⟨S4x256x512, .bf16⟩
  | .hbm, ⟨4, _⟩ => ⟨S256x512, .bf16⟩
  | .hbm, ⟨5, _⟩ => ⟨S64x512, .f32⟩
  | .local _ .vmem, ⟨0, _⟩ => ⟨S512x256, .bf16⟩
  | .local _ .vmem, ⟨1, _⟩ => ⟨S256x32, .bf16⟩
  | .local _ .vmem, ⟨2, _⟩ => ⟨S512x1, .i32⟩
  | .local _ .vmem, ⟨3, _⟩ => ⟨S4x256x512, .bf16⟩
  | .local _ .vmem, ⟨4, _⟩ => ⟨S256x512, .bf16⟩
  | .local _ .vmem, ⟨5, _⟩ => ⟨S64x512, .f32⟩
  | .local _ .vmem, ⟨6, _⟩ => ⟨S512x256, .bf16⟩
  | .local _ .vmem, ⟨7, _⟩ => ⟨S256x2048, .bf16⟩
  | .local _ .vmem, ⟨8, _⟩ => ⟨S512x4, .f32⟩
  | .local _ .vmem, ⟨9, _⟩ => ⟨S8x64x512, .bf16⟩
  | .local _ .vmem, ⟨10, _⟩ => ⟨S8x64x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c1_i32_91 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v155 : BitVec 32 := Scalar.addi v2 c1_i32_91
  let c8_i32_92 : BitVec 32 := 8#32
  let c0_i32_93 : BitVec 32 := 0#32
  let v156 : BitVec 1 := Scalar.cmpi .eq c8_i32_92 c0_i32_93
  let c1_i32_94 : BitVec 32 := 1#32
  let v157 : BitVec 32 := Scalar.select v156 c1_i32_94 c8_i32_92
  let v158 : BitVec 32 := Scalar.remsi v155 v157
  let c0_i32_96 : BitVec 32 := 0#32
  let v160 : BitVec 1 := Scalar.cmpi .slt v158 c0_i32_96
  let c0_i32_97 : BitVec 32 := 0#32
  let v161 : BitVec 1 := Scalar.cmpi .slt v157 c0_i32_97
  let v162 : BitVec 1 := Scalar.xori v160 v161
  let c0_i32_95 : BitVec 32 := 0#32
  let v159 : BitVec 1 := Scalar.cmpi .ne v158 c0_i32_95
  let v163 : BitVec 1 := Scalar.andi v162 v159
  let v164 : BitVec 32 := Scalar.addi v158 v157
  let v165 : BitVec 32 := Scalar.select v163 v164 v158
  let c64_i32 : BitVec 32 := 64#32
  let v166 : BitVec 32 := Scalar.muli v165 c64_i32
  let v167 : Index := Scalar.indexCast v166
  let c0_98 : Index := 0#32
  ![v167.toNat, 0]
def k0_off2 (d0 : Dev nD) (c1_i32_91 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v155 : BitVec 32 := Scalar.addi v2 c1_i32_91
  let c8_i32_92 : BitVec 32 := 8#32
  let c0_i32_93 : BitVec 32 := 0#32
  let v156 : BitVec 1 := Scalar.cmpi .eq c8_i32_92 c0_i32_93
  let c1_i32_94 : BitVec 32 := 1#32
  let v157 : BitVec 32 := Scalar.select v156 c1_i32_94 c8_i32_92
  let v158 : BitVec 32 := Scalar.remsi v155 v157
  let c0_i32_96 : BitVec 32 := 0#32
  let v160 : BitVec 1 := Scalar.cmpi .slt v158 c0_i32_96
  let c0_i32_97 : BitVec 32 := 0#32
  let v161 : BitVec 1 := Scalar.cmpi .slt v157 c0_i32_97
  let v162 : BitVec 1 := Scalar.xori v160 v161
  let c0_i32_95 : BitVec 32 := 0#32
  let v159 : BitVec 1 := Scalar.cmpi .ne v158 c0_i32_95
  let v163 : BitVec 1 := Scalar.andi v162 v159
  let v164 : BitVec 32 := Scalar.addi v158 v157
  let v165 : BitVec 32 := Scalar.select v163 v164 v158
  let c64_i32_102 : BitVec 32 := 64#32
  let v171 : BitVec 32 := Scalar.muli v165 c64_i32_102
  let v172 : Index := Scalar.indexCast v171
  let c0_103 : Index := 0#32
  ![v172.toNat, 0]
def k0_dev8 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_91 : BitVec 32 := 1#32
  let v155 : BitVec 32 := Scalar.addi v2 c1_i32_91
  let c8_i32_92 : BitVec 32 := 8#32
  let c0_i32_93 : BitVec 32 := 0#32
  let v156 : BitVec 1 := Scalar.cmpi .eq c8_i32_92 c0_i32_93
  let c1_i32_94 : BitVec 32 := 1#32
  let v157 : BitVec 32 := Scalar.select v156 c1_i32_94 c8_i32_92
  let v158 : BitVec 32 := Scalar.remsi v155 v157
  let c0_i32_96 : BitVec 32 := 0#32
  let v160 : BitVec 1 := Scalar.cmpi .slt v158 c0_i32_96
  let c0_i32_97 : BitVec 32 := 0#32
  let v161 : BitVec 1 := Scalar.cmpi .slt v157 c0_i32_97
  let v162 : BitVec 1 := Scalar.xori v160 v161
  let c0_i32_95 : BitVec 32 := 0#32
  let v159 : BitVec 1 := Scalar.cmpi .ne v158 c0_i32_95
  let v163 : BitVec 1 := Scalar.andi v162 v159
  let v164 : BitVec 32 := Scalar.addi v158 v157
  let v165 : BitVec 32 := Scalar.select v163 v164 v158
  let c1_i32_111 : BitVec 32 := 1#32
  let v197 : BitVec 32 := Scalar.muli v165 c1_i32_111
  let v198 : BitVec 32 := Scalar.addi c0_i32_112 v197
  v198.toNat
def k0_dev9 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_117 : BitVec 32 := 2#32
  let v207 : BitVec 32 := Scalar.addi v2 c2_i32_117
  let c8_i32_118 : BitVec 32 := 8#32
  let c0_i32_119 : BitVec 32 := 0#32
  let v208 : BitVec 1 := Scalar.cmpi .eq c8_i32_118 c0_i32_119
  let c1_i32_120 : BitVec 32 := 1#32
  let v209 : BitVec 32 := Scalar.select v208 c1_i32_120 c8_i32_118
  let v210 : BitVec 32 := Scalar.remsi v207 v209
  let c0_i32_122 : BitVec 32 := 0#32
  let v212 : BitVec 1 := Scalar.cmpi .slt v210 c0_i32_122
  let c0_i32_123 : BitVec 32 := 0#32
  let v213 : BitVec 1 := Scalar.cmpi .slt v209 c0_i32_123
  let v214 : BitVec 1 := Scalar.xori v212 v213
  let c0_i32_121 : BitVec 32 := 0#32
  let v211 : BitVec 1 := Scalar.cmpi .ne v210 c0_i32_121
  let v215 : BitVec 1 := Scalar.andi v214 v211
  let v216 : BitVec 32 := Scalar.addi v210 v209
  let v217 : BitVec 32 := Scalar.select v215 v216 v210
  let c1_i32_138 : BitVec 32 := 1#32
  let v249 : BitVec 32 := Scalar.muli v217 c1_i32_138
  let v250 : BitVec 32 := Scalar.addi c0_i32_139 v249
  v250.toNat
def k0_dev10 (d0 : Dev nD) : Nat :=
  let c0_i32_166 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_144 : BitVec 32 := 3#32
  let v259 : BitVec 32 := Scalar.addi v2 c3_i32_144
  let c8_i32_145 : BitVec 32 := 8#32
  let c0_i32_146 : BitVec 32 := 0#32
  let v260 : BitVec 1 := Scalar.cmpi .eq c8_i32_145 c0_i32_146
  let c1_i32_147 : BitVec 32 := 1#32
  let v261 : BitVec 32 := Scalar.select v260 c1_i32_147 c8_i32_145
  let v262 : BitVec 32 := Scalar.remsi v259 v261
  let c0_i32_149 : BitVec 32 := 0#32
  let v264 : BitVec 1 := Scalar.cmpi .slt v262 c0_i32_149
  let c0_i32_150 : BitVec 32 := 0#32
  let v265 : BitVec 1 := Scalar.cmpi .slt v261 c0_i32_150
  let v266 : BitVec 1 := Scalar.xori v264 v265
  let c0_i32_148 : BitVec 32 := 0#32
  let v263 : BitVec 1 := Scalar.cmpi .ne v262 c0_i32_148
  let v267 : BitVec 1 := Scalar.andi v266 v263
  let v268 : BitVec 32 := Scalar.addi v262 v261
  let v269 : BitVec 32 := Scalar.select v267 v268 v262
  let c1_i32_165 : BitVec 32 := 1#32
  let v301 : BitVec 32 := Scalar.muli v269 c1_i32_165
  let v302 : BitVec 32 := Scalar.addi c0_i32_166 v301
  v302.toNat
def k0_dev11 (d0 : Dev nD) : Nat :=
  let c0_i32_192 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_171 : BitVec 32 := 4#32
  let v311 : BitVec 32 := Scalar.addi v2 c4_i32_171
  let c8_i32_172 : BitVec 32 := 8#32
  let c0_i32_173 : BitVec 32 := 0#32
  let v312 : BitVec 1 := Scalar.cmpi .eq c8_i32_172 c0_i32_173
  let c1_i32_174 : BitVec 32 := 1#32
  let v313 : BitVec 32 := Scalar.select v312 c1_i32_174 c8_i32_172
  let v314 : BitVec 32 := Scalar.remsi v311 v313
  let c0_i32_176 : BitVec 32 := 0#32
  let v316 : BitVec 1 := Scalar.cmpi .slt v314 c0_i32_176
  let c0_i32_177 : BitVec 32 := 0#32
  let v317 : BitVec 1 := Scalar.cmpi .slt v313 c0_i32_177
  let v318 : BitVec 1 := Scalar.xori v316 v317
  let c0_i32_175 : BitVec 32 := 0#32
  let v315 : BitVec 1 := Scalar.cmpi .ne v314 c0_i32_175
  let v319 : BitVec 1 := Scalar.andi v318 v315
  let v320 : BitVec 32 := Scalar.addi v314 v313
  let v321 : BitVec 32 := Scalar.select v319 v320 v314
  let c1_i32_191 : BitVec 32 := 1#32
  let v353 : BitVec 32 := Scalar.muli v321 c1_i32_191
  let v354 : BitVec 32 := Scalar.addi c0_i32_192 v353
  v354.toNat
def k0_dev12 (d0 : Dev nD) : Nat :=
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_197 : BitVec 32 := 5#32
  let v363 : BitVec 32 := Scalar.addi v2 c5_i32_197
  let c8_i32_198 : BitVec 32 := 8#32
  let c0_i32_199 : BitVec 32 := 0#32
  let v364 : BitVec 1 := Scalar.cmpi .eq c8_i32_198 c0_i32_199
  let c1_i32_200 : BitVec 32 := 1#32
  let v365 : BitVec 32 := Scalar.select v364 c1_i32_200 c8_i32_198
  let v366 : BitVec 32 := Scalar.remsi v363 v365
  let c0_i32_202 : BitVec 32 := 0#32
  let v368 : BitVec 1 := Scalar.cmpi .slt v366 c0_i32_202
  let c0_i32_203 : BitVec 32 := 0#32
  let v369 : BitVec 1 := Scalar.cmpi .slt v365 c0_i32_203
  let v370 : BitVec 1 := Scalar.xori v368 v369
  let c0_i32_201 : BitVec 32 := 0#32
  let v367 : BitVec 1 := Scalar.cmpi .ne v366 c0_i32_201
  let v371 : BitVec 1 := Scalar.andi v370 v367
  let v372 : BitVec 32 := Scalar.addi v366 v365
  let v373 : BitVec 32 := Scalar.select v371 v372 v366
  let c1_i32_217 : BitVec 32 := 1#32
  let v405 : BitVec 32 := Scalar.muli v373 c1_i32_217
  let v406 : BitVec 32 := Scalar.addi c0_i32_218 v405
  v406.toNat
def k0_dev13 (d0 : Dev nD) : Nat :=
  let c0_i32_244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_223 : BitVec 32 := 6#32
  let v415 : BitVec 32 := Scalar.addi v2 c6_i32_223
  let c8_i32_224 : BitVec 32 := 8#32
  let c0_i32_225 : BitVec 32 := 0#32
  let v416 : BitVec 1 := Scalar.cmpi .eq c8_i32_224 c0_i32_225
  let c1_i32_226 : BitVec 32 := 1#32
  let v417 : BitVec 32 := Scalar.select v416 c1_i32_226 c8_i32_224
  let v418 : BitVec 32 := Scalar.remsi v415 v417
  let c0_i32_228 : BitVec 32 := 0#32
  let v420 : BitVec 1 := Scalar.cmpi .slt v418 c0_i32_228
  let c0_i32_229 : BitVec 32 := 0#32
  let v421 : BitVec 1 := Scalar.cmpi .slt v417 c0_i32_229
  let v422 : BitVec 1 := Scalar.xori v420 v421
  let c0_i32_227 : BitVec 32 := 0#32
  let v419 : BitVec 1 := Scalar.cmpi .ne v418 c0_i32_227
  let v423 : BitVec 1 := Scalar.andi v422 v419
  let v424 : BitVec 32 := Scalar.addi v418 v417
  let v425 : BitVec 32 := Scalar.select v423 v424 v418
  let c1_i32_243 : BitVec 32 := 1#32
  let v457 : BitVec 32 := Scalar.muli v425 c1_i32_243
  let v458 : BitVec 32 := Scalar.addi c0_i32_244 v457
  v458.toNat
def k0_dev14 (d0 : Dev nD) : Nat :=
  let c0_i32_270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_249 : BitVec 32 := 7#32
  let v467 : BitVec 32 := Scalar.addi v2 c7_i32_249
  let c8_i32_250 : BitVec 32 := 8#32
  let c0_i32_251 : BitVec 32 := 0#32
  let v468 : BitVec 1 := Scalar.cmpi .eq c8_i32_250 c0_i32_251
  let c1_i32_252 : BitVec 32 := 1#32
  let v469 : BitVec 32 := Scalar.select v468 c1_i32_252 c8_i32_250
  let v470 : BitVec 32 := Scalar.remsi v467 v469
  let c0_i32_254 : BitVec 32 := 0#32
  let v472 : BitVec 1 := Scalar.cmpi .slt v470 c0_i32_254
  let c0_i32_255 : BitVec 32 := 0#32
  let v473 : BitVec 1 := Scalar.cmpi .slt v469 c0_i32_255
  let v474 : BitVec 1 := Scalar.xori v472 v473
  let c0_i32_253 : BitVec 32 := 0#32
  let v471 : BitVec 1 := Scalar.cmpi .ne v470 c0_i32_253
  let v475 : BitVec 1 := Scalar.andi v474 v471
  let v476 : BitVec 32 := Scalar.addi v470 v469
  let v477 : BitVec 32 := Scalar.select v475 v476 v470
  let c1_i32_269 : BitVec 32 := 1#32
  let v509 : BitVec 32 := Scalar.muli v477 c1_i32_269
  let v510 : BitVec 32 := Scalar.addi c0_i32_270 v509
  v510.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_275 : BitVec 32 := 64#32
  let v519 : BitVec 32 := Scalar.muli v2 c64_i32_275
  let v520 : Index := Scalar.indexCast v519
  let c0_276 : Index := 0#32
  ![v520.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_280 : BitVec 32 := 64#32
  let v524 : BitVec 32 := Scalar.muli v2 c64_i32_280
  let v525 : Index := Scalar.indexCast v524
  let c0_281 : Index := 0#32
  ![v525.toNat, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S512x256 : Shape := ⟨2, ![512, 256]⟩
abbrev S256x32 : Shape := ⟨2, ![256, 32]⟩
abbrev S512x1 : Shape := ⟨2, ![512, 1]⟩
abbrev S32x256x512 : Shape := ⟨3, ![32, 256, 512]⟩
abbrev S256x512 : Shape := ⟨2, ![256, 512]⟩
abbrev S512x32 : Shape := ⟨2, ![512, 32]⟩
abbrev S_ : Shape := ⟨0, ![]⟩
abbrev S512 : Shape := ⟨1, ![512]⟩
abbrev S512x512 : Shape := ⟨2, ![512, 512]⟩
abbrev S512x2 : Shape := ⟨2, ![512, 2]⟩
abbrev S2 : Shape := ⟨1, ![2]⟩
abbrev S1x2 : Shape := ⟨2, ![1, 2]⟩
abbrev S1 : Shape := ⟨1, ![1]⟩
abbrev S1x1 : Shape := ⟨2, ![1, 1]⟩
abbrev S512x256x512 : Shape := ⟨3, ![512, 256, 512]⟩

abbrev nBuf : Space → Nat
  | .hbm => 62
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x32, .bf16⟩
  | .hbm, ⟨2, _⟩ => ⟨S512x1, .i32⟩
  | .hbm, ⟨3, _⟩ => ⟨S32x256x512, .bf16⟩
  | .hbm, ⟨4, _⟩ => ⟨S256x512, .bf16⟩
  | .hbm, ⟨5, _⟩ => ⟨S512x256, .f32⟩
  | .hbm, ⟨6, _⟩ => ⟨S256x32, .f32⟩
  | .hbm, ⟨7, _⟩ => ⟨S512x32, .f32⟩
  | .hbm, ⟨8, _⟩ => ⟨S_, .f32⟩
  | .hbm, ⟨9, _⟩ => ⟨S512, .f32⟩
  | .hbm, ⟨10, _⟩ => ⟨S512x1, .f32⟩
  | .hbm, ⟨11, _⟩ => ⟨S512x32, .f32⟩
  | .hbm, ⟨12, _⟩ => ⟨S512x32, .f32⟩
  | .hbm, ⟨13, _⟩ => ⟨S512x32, .f32⟩
  | .hbm, ⟨14, _⟩ => ⟨S_, .f32⟩
  | .hbm, ⟨15, _⟩ => ⟨S512, .f32⟩
  | .hbm, ⟨16, _⟩ => ⟨S512x1, .f32⟩
  | .hbm, ⟨17, _⟩ => ⟨S512x32, .f32⟩
  | .hbm, ⟨18, _⟩ => ⟨S512x32, .f32⟩
  | .hbm, ⟨19, _⟩ => ⟨S256x512, .f32⟩
  | .hbm, ⟨20, _⟩ => ⟨S512x512, .f32⟩
  | .hbm, ⟨21, _⟩ => ⟨S512, .i32⟩
  | .hbm, ⟨22, _⟩ => ⟨S512, .i32⟩
  | .hbm, ⟨23, _⟩ => ⟨S512x1, .i32⟩
  | .hbm, ⟨24, _⟩ => ⟨S512x1, .i32⟩
  | .hbm, ⟨25, _⟩ => ⟨S512x2, .i32⟩
  | .hbm, ⟨26, _⟩ => ⟨S2, .i32⟩
  | .hbm, ⟨27, _⟩ => ⟨S_, .i32⟩
  | .hbm, ⟨28, _⟩ => ⟨S512x2, .i32⟩
  | .hbm, ⟨29, _⟩ => ⟨S512x2, .i1⟩
  | .hbm, ⟨30, _⟩ => ⟨S1x2, .i32⟩
  | .hbm, ⟨31, _⟩ => ⟨S512x2, .i32⟩
  | .hbm, ⟨32, _⟩ => ⟨S512x2, .i1⟩
  | .hbm, ⟨33, _⟩ => ⟨S512x2, .i1⟩
  | .hbm, ⟨34, _⟩ => ⟨S_, .i1⟩
  | .hbm, ⟨35, _⟩ => ⟨S512, .i1⟩
  | .hbm, ⟨36, _⟩ => ⟨S512, .f32⟩
  | .hbm, ⟨37, _⟩ => ⟨S_, .f32⟩
  | .hbm, ⟨38, _⟩ => ⟨S512, .f32⟩
  | .hbm, ⟨39, _⟩ => ⟨S512, .f32⟩
  | .hbm, ⟨40, _⟩ => ⟨S512x1, .i32⟩
  | .hbm, ⟨41, _⟩ => ⟨S1, .i32⟩
  | .hbm, ⟨42, _⟩ => ⟨S_, .i32⟩
  | .hbm, ⟨43, _⟩ => ⟨S512x1, .i32⟩
  | .hbm, ⟨44, _⟩ => ⟨S512x1, .i1⟩
  | .hbm, ⟨45, _⟩ => ⟨S1x1, .i32⟩
  | .hbm, ⟨46, _⟩ => ⟨S512x1, .i32⟩
  | .hbm, ⟨47, _⟩ => ⟨S512x1, .i1⟩
  | .hbm, ⟨48, _⟩ => ⟨S512x1, .i1⟩
  | .hbm, ⟨49, _⟩ => ⟨S_, .i1⟩
  | .hbm, ⟨50, _⟩ => ⟨S512, .i1⟩
  | .hbm, ⟨51, _⟩ => ⟨S512x256x512, .bf16⟩
  | .hbm, ⟨52, _⟩ => ⟨S512x256x512, .i1⟩
  | .hbm, ⟨53, _⟩ => ⟨S_, .bf16⟩
  | .hbm, ⟨54, _⟩ => ⟨S512x256x512, .bf16⟩
  | .hbm, ⟨55, _⟩ => ⟨S512x256x512, .bf16⟩
  | .hbm, ⟨56, _⟩ => ⟨S512x1, .f32⟩
  | .hbm, ⟨57, _⟩ => ⟨S512x256x512, .f32⟩
  | .hbm, ⟨58, _⟩ => ⟨S512x512, .f32⟩
  | .hbm, ⟨59, _⟩ => ⟨S512x512, .f32⟩
  | .hbm, ⟨60, _⟩ => ⟨S512x512, .f32⟩
  | .hbm, ⟨61, _⟩ => ⟨S512x512, .f32⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_4 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Proof.Common.lean ====
/-
# The exchange protocol of the kernel: cells, contents, schedule, debts

Eight devices. Device `c` numbers its seven peers by `r : Fin 7`: peer `r` is `up r c`, the device `r + 1` places
further round the ring, and `dn r c` is the device whose peer `r` is `c`. Every device

* signals the barrier semaphore of each peer once, and waits for seven units on its own;
* writes the block it computes for peer `r` into slot `r + 1` of its send buffer and transfers it into slot `r + 1`
  of that peer's receive buffer (send semaphore `r + 1` here, receive semaphore `r + 1` there);
* waits for the seven arrivals, and at last for its seven departures.

The signal to peer `r` hands over the slot of the signaller's receive buffer which that peer will write. This module
names all of these, states what every landing hands over (`exRd`) and what every device owes at launch (`OB`).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources -/

/-- The exchange's own rounds: a duty is named by a peer number. -/
abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-- The machine at launch: any contents, every semaphore counter zero. -/
def s₀ : MemSt nD τ sig (Elt F) := ⟨m, fun _ => 0, ρ⟩

/-! ## The ring of devices -/

set_option backward.proofsInPublic true in
/-- Peer `r` of device `c`: `r + 1` places up. -/
def up (r : Fin 7) (c : Dev nD) : Dev nD := ⟨(c.val + r.val + 1) % 8, Nat.mod_lt _ (by decide)⟩
set_option backward.proofsInPublic true in
/-- The device whose peer `r` is `c`: `r + 1` places down. -/
def dn (r : Fin 7) (c : Dev nD) : Dev nD := ⟨(c.val + 7 - r.val) % 8, Nat.mod_lt _ (by decide)⟩
set_option backward.proofsInPublic true in
/-- The peer number seen from the other end. -/
def rev (r : Fin 7) : Fin 7 := ⟨6 - r.val, by omega⟩

theorem dn_up : ∀ (r : Fin 7) (c : Dev nD), dn r (up r c) = c := by decide +kernel
theorem up_dn : ∀ (r : Fin 7) (c : Dev nD), up r (dn r c) = c := by decide +kernel
theorem dn_eq : ∀ (r : Fin 7) (c : Dev nD), dn r c = up (rev r) c := by decide +kernel
theorem rev_rev : ∀ r : Fin 7, rev (rev r) = r := by decide

/-- Going up `r + 1` places, as a permutation of the devices. -/
def shift (r : Fin 7) : Dev nD ≃ Dev nD := ⟨up r, dn r, dn_up r, up_dn r⟩
/-- Reversing the peer numbers. -/
def flip : Fin 7 ≃ Fin 7 := ⟨rev, rev, rev_rev, rev_rev⟩

/-- The devices the kernel computes for its seven signals and its seven transfers are the seven peers. -/
theorem dev1_eq : ∀ c : Dev nD, (⟨k0_dev1 c, k0_dev1_lt c⟩ : Dev nD) = up 0 c := by decide +kernel
theorem dev2_eq : ∀ c : Dev nD, (⟨k0_dev2 c, k0_dev2_lt c⟩ : Dev nD) = up 1 c := by decide +kernel
theorem dev3_eq : ∀ c : Dev nD, (⟨k0_dev3 c, k0_dev3_lt c⟩ : Dev nD) = up 2 c := by decide +kernel
theorem dev4_eq : ∀ c : Dev nD, (⟨k0_dev4 c, k0_dev4_lt c⟩ : Dev nD) = up 3 c := by decide +kernel
theorem dev5_eq : ∀ c : Dev nD, (⟨k0_dev5 c, k0_dev5_lt c⟩ : Dev nD) = up 4 c := by decide +kernel
theorem dev6_eq : ∀ c : Dev nD, (⟨k0_dev6 c, k0_dev6_lt c⟩ : Dev nD) = up 5 c := by decide +kernel
theorem dev7_eq : ∀ c : Dev nD, (⟨k0_dev7 c, k0_dev7_lt c⟩ : Dev nD) = up 6 c := by decide +kernel
theorem dev8_eq : ∀ c : Dev nD, (⟨k0_dev8 c, k0_dev8_lt c⟩ : Dev nD) = up 0 c := by decide +kernel
theorem dev9_eq : ∀ c : Dev nD, (⟨k0_dev9 c, k0_dev9_lt c⟩ : Dev nD) = up 1 c := by decide +kernel
theorem dev10_eq : ∀ c : Dev nD, (⟨k0_dev10 c, k0_dev10_lt c⟩ : Dev nD) = up 2 c := by decide +kernel
theorem dev11_eq : ∀ c : Dev nD, (⟨k0_dev11 c, k0_dev11_lt c⟩ : Dev nD) = up 3 c := by decide +kernel
theorem dev12_eq : ∀ c : Dev nD, (⟨k0_dev12 c, k0_dev12_lt c⟩ : Dev nD) = up 4 c := by decide +kernel
theorem dev13_eq : ∀ c : Dev nD, (⟨k0_dev13 c, k0_dev13_lt c⟩ : Dev nD) = up 5 c := by decide +kernel
theorem dev14_eq : ∀ c : Dev nD, (⟨k0_dev14 c, k0_dev14_lt c⟩ : Dev nD) = up 6 c := by decide +kernel

/-! ## Memrefs, slots, semaphores -/

abbrev xM : Memref sig .tc .vmem S512x256 .bf16 := Memref.whole cc0_stg0_0
abbrev rwM : Memref sig .tc .vmem S256x32 .bf16 := Memref.whole cc0_stg1_0
abbrev ixM : Memref sig .tc .vmem S512x1 .i32 := Memref.whole cc0_stg2_0
abbrev ewM : Memref sig .tc .vmem S4x256x512 .bf16 := Memref.whole cc0_stg3_0
abbrev swM : Memref sig .tc .vmem S256x512 .bf16 := Memref.whole cc0_stg4_0
abbrev oM : Memref sig .tc .vmem S64x512 .f32 := Memref.whole cc0_stg5_0
abbrev xbM : Memref sig .tc .vmem S512x256 .bf16 := Memref.whole cc0_scratch0
abbrev wcM : Memref sig .tc .vmem S256x2048 .bf16 := Memref.whole cc0_scratch1
abbrev coM : Memref sig .tc .vmem S512x4 .f32 := Memref.whole cc0_scratch2
abbrev sM : Memref sig .tc .vmem S8x64x512 .bf16 := Memref.whole cc0_scratch3
abbrev rM : Memref sig .tc .vmem S8x64x512 .bf16 := Memref.whole cc0_scratch4

theorem inbSlot (s : ℕ) (hs : s < 8) : ∀ a, (![s, 0, 0] : Fin 3 → Nat) a + S1x64x512.size a ≤ S8x64x512.size a := by
  intro a; fin_cases a
  · show s + 1 ≤ 8; omega
  · show 0 + 64 ≤ 64; omega
  · show 0 + 512 ≤ 512; omega
theorem inbSem (s : ℕ) (hs : s < 8) : ∀ a, (![s] : Fin 1 → Nat) a + S1.size a ≤ S8.size a := by
  intro a; fin_cases a
  show s + 1 ≤ 8; omega

/-- Slot `k` of an exchange buffer. -/
abbrev slotR (k : Fin 8) : Rect S8x64x512 := Rect.unit (s := S8x64x512) ![k.val, 0, 0] S1x64x512.size (inbSlot k.val k.isLt)
/-- The slot of peer `r`. -/
abbrev sl (r : Fin 7) : Fin 8 := r.succ
/-- Slot `k` of the send buffer and of the receive buffer as the transfers name them. -/
abbrev sV (k : Fin 8) : Memref sig .tc .vmem S64x512 .bf16 := (sM.slice (slotR k) (fun _ => rfl)).squeeze S64x512 squeezes_S1x64x512_S64x512
abbrev rV (k : Fin 8) : Memref sig .tc .vmem S64x512 .bf16 := (rM.slice (slotR k) (fun _ => rfl)).squeeze S64x512 squeezes_S1x64x512_S64x512

abbrev barS : Sem sig := (SemArray.scalar (sig.barrier 0 rfl) : Sems sig S_).sem
/-- The send and receive semaphores of peer `r`: element `r + 1` of each array. -/
abbrev sendS (r : Fin 7) : DmaSem sig := ((cc0_scratch5.slice (Rect.unit (s := S8) ![(sl r).val] S1.size (inbSem _ (sl r).isLt))).squeeze S_ squeezes_S1_S_).sem
abbrev recvS (r : Fin 7) : DmaSem sig := ((cc0_scratch6.slice (Rect.unit (s := S8) ![(sl r).val] S1.size (inbSem _ (sl r).isLt))).squeeze S_ squeezes_S1_S_).sem

abbrev barCell (c : Dev nD) : GSem nD τ sig := ((c : Thread nD τ), .reg barS)
abbrev sendCell (c : Dev nD) (r : Fin 7) : GSem nD τ sig := ((c : Thread nD τ), .dma (sendS r))
abbrev recvCell (c : Dev nD) (r : Fin 7) : GSem nD τ sig := ((c : Thread nD τ), .dma (recvS r))

/-- The credit of one block. -/
abbrev N : ℕ := (rV 0).view.dmaCredit
theorem N_pos : 0 < N := View.dmaCredit_pos _ (by decide)

/-- A device's cells of the exchange: its barrier, its seven send and its seven receive semaphores. -/
abbrev CK : Type := Unit ⊕ (Fin 7 ⊕ Fin 7)
abbrev csem : CK → SemLoc sig
  | .inl _ => .reg barS
  | .inr (.inl r) => .dma (sendS r)
  | .inr (.inr r) => .dma (recvS r)
abbrev kcell (ck : Dev nD × CK) : GSem nD τ sig := ((ck.1 : Thread nD τ), csem ck.2)

set_option backward.proofsInPublic true in
/-- Which of these a semaphore is, if any. -/
def role (sm : SemLoc sig) : Option CK :=
  if sm = .reg barS then some (.inl ())
  else match (List.finRange 7).find? (fun r => decide (sm = .dma (sendS r))) with
    | some r => some (.inr (.inl r))
    | none => match (List.finRange 7).find? (fun r => decide (sm = .dma (recvS r))) with
      | some r => some (.inr (.inr r))
      | none => none

theorem role_bar : role (.reg barS) = some (.inl ()) := by decide +kernel
theorem role_send : ∀ r, role (.dma (sendS r)) = some (.inr (.inl r)) := by decide +kernel
theorem role_recv : ∀ r, role (.dma (recvS r)) = some (.inr (.inr r)) := by decide +kernel
theorem role_csem : ∀ k, role (csem k) = some k
  | .inl () => role_bar
  | .inr (.inl r) => role_send r
  | .inr (.inr r) => role_recv r
theorem csem_injective : Function.Injective csem := fun a b h =>
  Option.some.inj ((role_csem a).symm.trans ((congrArg role h).trans (role_csem b)))

/-! ## Contents -/

/-- The five operands as the body finds them in their staging buffers. -/
def xIn (c : Dev nD) : (cc0_stg0_0 : Ref sig .tc).ty.Contents (Elt F) :=
  (win0_0.blk (0 : Fin 1)).view.read (Elt F) ((s₀ m ρ).mem ((c : Thread nD τ).loc main_arg0))
def rwIn (c : Dev nD) : (cc0_stg1_0 : Ref sig .tc).ty.Contents (Elt F) :=
  (win0_1.blk (0 : Fin 1)).view.read (Elt F) ((s₀ m ρ).mem ((c : Thread nD τ).loc main_arg1))
def ixIn (c : Dev nD) : (cc0_stg2_0 : Ref sig .tc).ty.Contents (Elt F) :=
  (win0_2.blk (0 : Fin 1)).view.read (Elt F) ((s₀ m ρ).mem ((c : Thread nD τ).loc main_arg2))
def ewIn (c : Dev nD) : (cc0_stg3_0 : Ref sig .tc).ty.Contents (Elt F) :=
  (win0_3.blk (0 : Fin 1)).view.read (Elt F) ((s₀ m ρ).mem ((c : Thread nD τ).loc main_arg3))
def swIn (c : Dev nD) : (cc0_stg4_0 : Ref sig .tc).ty.Contents (Elt F) :=
  (win0_4.blk (0 : Fin 1)).view.read (Elt F) ((s₀ m ρ).mem ((c : Thread nD τ).loc main_arg4))

/-- A device's number as the kernel computes it. -/
abbrev devW (c : Dev nD) : BitVec 32 := Scalar.remsi (Scalar.divsi (Dev.word c) 1#32) 8#32

/-- The tokens in the matrix unit's type. -/
def xbC (c : Dev nD) : (cc0_scratch0 : Ref sig .tc).ty.Contents (Elt F) := k0_pay3 (k0_pay1 (xIn m ρ c))
/-- The weight of each of the device's four experts on each token. -/
def coC (c : Dev nD) : (cc0_scratch2 : Ref sig .tc).ty.Contents (Elt F) := k0_pay2 (devW c) (k0_pay1 (xIn m ρ c)) (rwIn m ρ c) (ixIn m ρ c)

abbrev ewR0 : Rect S4x256x512 := Rect.unit (s := S4x256x512) ![0, 0, 0] S1x256x512.size inb_S4x256x512_S1x256x512_0_0_0
abbrev ewR1 : Rect S4x256x512 := Rect.unit (s := S4x256x512) ![1, 0, 0] S1x256x512.size inb_S4x256x512_S1x256x512_1_0_0
abbrev ewR2 : Rect S4x256x512 := Rect.unit (s := S4x256x512) ![2, 0, 0] S1x256x512.size inb_S4x256x512_S1x256x512_2_0_0
abbrev ewR3 : Rect S4x256x512 := Rect.unit (s := S4x256x512) ![3, 0, 0] S1x256x512.size inb_S4x256x512_S1x256x512_3_0_0
abbrev wcR0 : Rect S256x2048 := Rect.unit (s := S256x2048) ![0, 0] S256x512.size inb_S256x2048_S256x512_0_0
abbrev wcR1 : Rect S256x2048 := Rect.unit (s := S256x2048) ![0, 512] S256x512.size inb_S256x2048_S256x512_0_512
abbrev wcR2 : Rect S256x2048 := Rect.unit (s := S256x2048) ![0, 1024] S256x512.size inb_S256x2048_S256x512_0_1024
abbrev wcR3 : Rect S256x2048 := Rect.unit (s := S256x2048) ![0, 1536] S256x512.size inb_S256x2048_S256x512_0_1536

/-- The four experts' matrices side by side, written over `f`. -/
def wcOver (c : Dev nD) (f : (cc0_scratch1 : Ref sig .tc).ty.Contents (Elt F)) : (cc0_scratch1 : Ref sig .tc).ty.Contents (Elt F) :=
  (wcM.access wcR3 : View sig .tc _ _ _).write (Elt F)
    ((wcM.access wcR2 : View sig .tc _ _ _).write (Elt F)
      ((wcM.access wcR1 : View sig .tc _ _ _).write (Elt F)
        ((wcM.access wcR0 : View sig .tc _ _ _).write (Elt F) f
          (k0_pay5 (k0_pay4 (ewM.view.readAt (Elt F) ewR0.toLoadRect (ewIn m ρ c)))) Finset.univ)
        (k0_pay6 (ewM.view.readAt (Elt F) ewR1.toLoadRect (ewIn m ρ c))) Finset.univ)
      (k0_pay7 (ewM.view.readAt (Elt F) ewR2.toLoadRect (ewIn m ρ c))) Finset.univ)
    (k0_pay8 (ewM.view.readAt (Elt F) ewR3.toLoadRect (ewIn m ρ c))) Finset.univ

/-- The same, over whatever the buffer held at launch. -/
def wcC (c : Dev nD) : (cc0_scratch1 : Ref sig .tc).ty.Contents (Elt F) := wcOver m ρ c (m ((c : Thread nD τ).loc cc0_scratch1))

omit [FloatOps F] in
/-- A write into a rectangle of the buffer decides the elements of the rectangle and keeps agreement off it. -/
theorem wc_agree (R : Rect S256x2048) (f g : (cc0_scratch1 : Ref sig .tc).ty.Contents (Elt F)) (w : R.shape.Idx → Elt F .bf16)
    (i : (cc0_scratch1 : Ref sig .tc).ty.Idx) (h : i ∈ R.set ∨ f i = g i) :
    (wcM.access R : View sig .tc _ _ _).write (Elt F) f w Finset.univ i = (wcM.access R : View sig .tc _ _ _).write (Elt F) g w Finset.univ i := by
  have hS : (wcM.access R : View sig .tc _ _ _).setOn Finset.univ = R.set := View.set_slice_whole cc0_scratch1 R
  by_cases hi : i ∈ (wcM.access R : View sig .tc _ _ _).setOn Finset.univ
  · obtain ⟨x, -, rfl⟩ := Finset.mem_map.mp hi
    rw [View.write_emb_of_mem _ _ (Finset.mem_univ x), View.write_emb_of_mem _ _ (Finset.mem_univ x)]
  · rw [View.write_of_not_mem _ _ _ hi, View.write_of_not_mem _ _ _ hi]
    exact h.resolve_left (hS ▸ hi)

/-- The four column blocks cover the buffer. -/
theorem wc_cover (i : S256x2048.Idx) : i ∈ wcR0.set ∨ i ∈ wcR1.set ∨ i ∈ wcR2.set ∨ i ∈ wcR3.set := by
  have h1 : (i 1).val < 2048 := (i 1).isLt
  have h0 : (i 0).val < 256 := (i 0).isLt
  have key : ∀ (o : ℕ) (hb : ∀ a, (![0, o] : Fin 2 → Nat) a + S256x512.size a ≤ S256x2048.size a), o ≤ (i 1).val → (i 1).val < o + 512 →
      i ∈ (Rect.unit (s := S256x2048) ![0, o] S256x512.size hb).set := by
    intro o hb ha hb'
    refine Rect.mem_set_unit.mpr fun a => ?_
    fin_cases a
    · exact ⟨Nat.zero_le _, by show (i 0).val < 0 + 256; omega⟩
    · exact ⟨ha, hb'⟩
  by_cases h2 : (i 1).val < 512
  · exact .inl (key 0 _ (Nat.zero_le _) (by omega))
  by_cases h3 : (i 1).val < 1024
  · exact .inr (.inl (key 512 _ (by omega) (by omega)))
  by_cases h4 : (i 1).val < 1536
  · exact .inr (.inr (.inl (key 1024 _ (by omega) (by omega))))
  · exact .inr (.inr (.inr (key 1536 _ (by omega) (by omega))))

/-- Nothing is left of what the buffer held before. -/
theorem wcOver_eq (c : Dev nD) (f : (cc0_scratch1 : Ref sig .tc).ty.Contents (Elt F)) : wcOver m ρ c f = wcC m ρ c := by
  funext i
  unfold wcC wcOver
  rcases wc_cover i with h | h | h | h
  · exact wc_agree _ _ _ _ i (.inr (wc_agree _ _ _ _ i (.inr (wc_agree _ _ _ _ i (.inr (wc_agree _ _ _ _ i (.inl h)))))))
  · exact wc_agree _ _ _ _ i (.inr (wc_agree _ _ _ _ i (.inr (wc_agree _ _ _ _ i (.inl h)))))
  · exact wc_agree _ _ _ _ i (.inr (wc_agree _ _ _ _ i (.inl h)))
  · exact wc_agree _ _ _ _ i (.inl h)

/-- The rows of tokens of peer `r`. -/
abbrev xbR (c : Dev nD) (r : Fin 7) : Rect S512x256 := Rect.unit (s := S512x256) (k0_off1 c (BitVec.ofNat 32 (1 + r.val))) S64x256.size (k0_off1_inb c r)
abbrev coR (c : Dev nD) (r : Fin 7) : Rect S512x4 := Rect.unit (s := S512x4) (k0_off2 c (BitVec.ofNat 32 (1 + r.val))) S64x4.size (k0_off2_inb c r)
/-- A device's own rows. -/
abbrev xbO (c : Dev nD) : Rect S512x256 := Rect.unit (s := S512x256) (k0_off3 c) S64x256.size (k0_off3_inb c)
abbrev coO (c : Dev nD) : Rect S512x4 := Rect.unit (s := S512x4) (k0_off4 c) S64x4.size (k0_off4_inb c)

/-- The block device `c` computes for peer `r`: its four experts on that peer's tokens. -/
def chunk (c : Dev nD) (r : Fin 7) : FVec F S1x64x512 .bf16 :=
  k0_pay9 (xbM.view.readAt (Elt F) (xbR c r).toLoadRect (xbC m ρ c)) (wcC m ρ c) (coM.view.readAt (Elt F) (coR c r).toLoadRect (coC m ρ c))

/-- What device `c` computes for its own tokens: its experts' part and the shared expert's. -/
def own (c : Dev nD) : FVec F S64x512 .f32 :=
  k0_pay24 (xbM.view.readAt (Elt F) (xbO c).toLoadRect (xbC m ρ c)) (wcC m ρ c) (coM.view.readAt (Elt F) (coO c).toLoadRect (coC m ρ c))
    (xbM.view.readAt (Elt F) (xbO c).toLoadRect (xbC m ρ c)) (swIn m ρ c)

/-- The block that reaches device `c` in slot `r + 1`. -/
abbrev inc (c : Dev nD) (r : Fin 7) : FVec F S1x64x512 .bf16 := chunk m ρ (dn r c) r

/-- The kernel's result on device `c`: its own part and the seven blocks that reach it, added in slot order. -/
def outAt (c : Dev nD) : (cc0_stg5_0 : Ref sig .tc).ty.Contents (Elt F) :=
  k0_pay28 (k0_pay26 (k0_pay25 (own m ρ c) (inc m ρ c 0) (inc m ρ c 1)) (inc m ρ c 2) (inc m ρ c 3)) (k0_pay27 (inc m ρ c 4)) (inc m ρ c 5) (inc m ρ c 6)

/-! ## Slots held -/

/-- Slot `k` of device `c`'s send buffer, at contents `f`; -/
def sslot (c : Dev nD) (k : Fin 8) (f : Buf (Elt F) ((c : Thread nD τ).loc cc0_scratch3)) : sProp 𝕄 :=
  ((c : Thread nD τ).loc cc0_scratch3) ↦[(slotR k).set]{fullShare} f
/-- of its receive buffer. -/
def rslot (c : Dev nD) (k : Fin 8) (f : Buf (Elt F) ((c : Thread nD τ).loc cc0_scratch4)) : sProp 𝕄 :=
  ((c : Thread nD τ).loc cc0_scratch4) ↦[(slotR k).set]{fullShare} f

omit [FloatOps F] in
instance sslot_storable (c : Dev nD) (k) (f) : BI.Storable (upEmb : UEmb _ 𝕄) (sslot (F := F) c k f) := by unfold sslot; infer_instance
omit [FloatOps F] in
instance rslot_storable (c : Dev nD) (k) (f) : BI.Storable (upEmb : UEmb _ 𝕄) (rslot (F := F) c k f) := by unfold rslot; infer_instance

theorem sV_set (k : Fin 8) : (sV k).view.set = (slotR k).set := by
  show ((sM.view.slice (slotR k)).reshape S64x512 _).set = _
  rw [View.set_reshape]; exact View.set_slice_whole _ _
theorem rV_set (k : Fin 8) : (rV k).view.set = (slotR k).set := by
  show ((rM.view.slice (slotR k)).reshape S64x512 _).set = _
  rw [View.set_reshape]; exact View.set_slice_whole _ _

omit [FloatOps F] in
/-- A slot transferred is read back as it was. -/
theorem slot_landed (k : Fin 8) (fd : (cc0_scratch4 : Ref sig .tc).ty.Contents (Elt F)) (fs : (cc0_scratch3 : Ref sig .tc).ty.Contents (Elt F)) :
    rM.view.readAt (Elt F) (slotR k).toLoadRect ((rV k).view.write (Elt F) fd ((sV k).view.read (Elt F) fs) Finset.univ)
      = sM.view.readAt (Elt F) (slotR k).toLoadRect fs := by
  funext x
  have hn := (squeezes_S1x64x512_S64x512 : S1x64x512.Squeezes S64x512).numel_eq
  have e₁ : (rV k).view.emb ((Shape.reshapeEquiv hn).symm x) = (slotR k).emb x := by
    show ((rM.view.slice (slotR k)).reshape S64x512 hn).emb _ = _
    show (rM.view.slice (slotR k)).emb (Shape.reshapeEquiv hn ((Shape.reshapeEquiv hn).symm x)) = _
    rw [Equiv.apply_symm_apply]; rfl
  have e₂ : (sV k).view.emb ((Shape.reshapeEquiv hn).symm x) = (slotR k).emb x := by
    show ((sM.view.slice (slotR k)).reshape S64x512 hn).emb _ = _
    show (sM.view.slice (slotR k)).emb (Shape.reshapeEquiv hn ((Shape.reshapeEquiv hn).symm x)) = _
    rw [Equiv.apply_symm_apply]; rfl
  show (rV k).view.write (Elt F) fd ((sV k).view.read (Elt F) fs) Finset.univ ((slotR k).emb x) = fs ((slotR k).emb x)
  rw [← e₁, View.write_emb_of_mem _ _ (Finset.mem_univ _), View.read_apply, e₂, e₁]
  rfl

/-! ## The schedule -/

/-- Signal `d` of a barrier cell of `c` comes from `dn d c` and hands over the slot that `c` writes there. -/
def barPay (c : Dev nD) (d : Fin 7) : sProp 𝕄 := iprop(∃ f, rslot (F := F) (dn d c) (sl (rev d)) f)
/-- A departure hands the send slot back. -/
def sendPay (c : Dev nD) (r : Fin 7) : sProp 𝕄 := iprop(∃ f, sslot (F := F) c (sl r) f)
/-- An arrival hands the receive slot over, holding the sender's block. -/
def recvPay (c : Dev nD) (r : Fin 7) : sProp 𝕄 :=
  iprop(∃ f, ⌜rM.view.readAt (Elt F) (slotR (sl r)).toLoadRect f = inc m ρ c r⌝ ∗ rslot c (sl r) f)

/-- One round. A barrier cell has seven duties of one unit; a send or receive cell one duty of a block's credit. -/
def exRd : Rounds.Schedule (GSem nD τ sig) (Fin 7) 𝕄 where
  duties g n := if n = 0 ∧ g.1.2 = .tc then (match role g.2 with | some (.inl _) => Finset.univ | some (.inr _) => {0} | none => ∅) else ∅
  unitless _ := False
  amount g _ _ := match role g.2 with | some (.inl _) => 1 | _ => N
  payload g _ d := match role g.2 with
    | some (.inl _) => barPay g.1.1 d
    | some (.inr (.inl r)) => sendPay g.1.1 r
    | some (.inr (.inr r)) => recvPay m ρ g.1.1 r
    | none => iprop(emp)
  amount_pos g _ _ _ := by
    rcases role g.2 with _ | _ | _
    · exact N_pos
    · exact Nat.one_pos
    · exact N_pos

instance exRd_payload_storable (g : GSem nD τ sig) (n : ℕ) (d : Fin 7) : BI.Storable (upEmb : UEmb _ 𝕄) ((exRd (F := F) m ρ).payload g n d) := by
  show BI.Storable upEmb (match role g.2 with
    | some (.inl _) => barPay g.1.1 d
    | some (.inr (.inl r)) => sendPay g.1.1 r
    | some (.inr (.inr r)) => recvPay m ρ g.1.1 r
    | none => iprop(emp))
  unfold barPay sendPay recvPay
  split <;> infer_instance

section Sched
variable (c : Dev nD) (r : Fin 7)

theorem duties_bar : (exRd (F := F) m ρ).duties (barCell c) 0 = Finset.univ := by
  dsimp only [exRd]; rw [if_pos ⟨rfl, rfl⟩, role_bar]
theorem duties_send : (exRd (F := F) m ρ).duties (sendCell c r) 0 = {0} := by
  dsimp only [exRd]; rw [if_pos ⟨rfl, rfl⟩, role_send]
theorem duties_recv : (exRd (F := F) m ρ).duties (recvCell c r) 0 = {0} := by
  dsimp only [exRd]; rw [if_pos ⟨rfl, rfl⟩, role_recv]
theorem duties_later (g : GSem nD τ sig) : ∀ n, 1 ≤ n → (exRd (F := F) m ρ).duties g n = ∅ :=
  fun n hn => by dsimp only [exRd]; rw [if_neg fun h => by omega]

theorem amount_bar (d : Fin 7) : (exRd (F := F) m ρ).amount (barCell c) 0 d = 1 := by dsimp only [exRd]; rw [role_bar]
theorem amount_send (d : Fin 7) : (exRd (F := F) m ρ).amount (sendCell c r) 0 d = N := by dsimp only [exRd]; rw [role_send]
theorem amount_recv (d : Fin 7) : (exRd (F := F) m ρ).amount (recvCell c r) 0 d = N := by dsimp only [exRd]; rw [role_recv]

theorem expect_bar : (exRd (F := F) m ρ).expect (barCell c) 0 = 7 := by
  unfold Schedule.expect Schedule.amountOf
  rw [duties_bar, Finset.sum_congr rfl fun d _ => amount_bar m ρ c d]; rfl
theorem expect_send : (exRd (F := F) m ρ).expect (sendCell c r) 0 = N := by
  unfold Schedule.expect Schedule.amountOf; rw [duties_send, Finset.sum_singleton, amount_send]
theorem expect_recv : (exRd (F := F) m ρ).expect (recvCell c r) 0 = N := by
  unfold Schedule.expect Schedule.amountOf; rw [duties_recv, Finset.sum_singleton, amount_recv]

theorem payload_bar (d : Fin 7) : (exRd (F := F) m ρ).payload (barCell c) 0 d = barPay c d := by dsimp only [exRd]; rw [role_bar]
theorem payload_send (d : Fin 7) : (exRd (F := F) m ρ).payload (sendCell c r) 0 d = sendPay c r := by dsimp only [exRd]; rw [role_send]
theorem payload_recv (d : Fin 7) : (exRd (F := F) m ρ).payload (recvCell c r) 0 d = recvPay m ρ c r := by dsimp only [exRd]; rw [role_recv]

/-- What the whole round of a barrier cell hands over: the slot in each peer's receive buffer that this device writes. -/
theorem rest_bar : bigSep ((exRd (F := F) m ρ).duties (barCell c) 0 \ ∅) (fun d => (exRd (F := F) m ρ).payload (barCell c) 0 d)
    = bigSep Finset.univ fun r : Fin 7 => iprop(∃ f, rslot (F := F) (up r c) (sl r) f) := by
  rw [Finset.sdiff_empty, duties_bar, bigSep_univ_equiv flip]
  refine bigSep_congr fun r _ => ?_
  rw [payload_bar]; unfold barPay
  show iprop(∃ f, rslot (F := F) (dn (rev r) c) (sl (rev (rev r))) f) = _
  rw [dn_eq, rev_rev]
theorem rest_send : bigSep ((exRd (F := F) m ρ).duties (sendCell c r) 0 \ ∅) (fun d => (exRd (F := F) m ρ).payload (sendCell c r) 0 d) = sendPay c r := by
  rw [Finset.sdiff_empty, duties_send, bigSep_singleton, payload_send]
theorem rest_recv : bigSep ((exRd (F := F) m ρ).duties (recvCell c r) 0 \ ∅) (fun d => (exRd (F := F) m ρ).payload (recvCell c r) 0 d) = recvPay m ρ c r := by
  rw [Finset.sdiff_empty, duties_recv, bigSep_singleton, payload_recv]

end Sched

/-! ## Debts -/

/-- The credit of the transfers from number `k` on. -/
def OR (c : Dev nD) (k : ℕ) : CellTallies nD τ sig Unit :=
  ∑ r : Fin 7 with k ≤ r.val, tallyAt (recvCell (up r c) r) () N
/-- All of it, and the units of the signals from number `k` on. -/
def OB (c : Dev nD) (k : ℕ) : CellTallies nD τ sig Unit :=
  OR c 0 + ∑ r : Fin 7 with k ≤ r.val, tallyAt (barCell (up r c)) () 1

theorem sum_peel {A : Type} [AddCommMonoid A] (f : Fin 7 → A) (q : Fin 7) :
    (∑ r : Fin 7 with q.val ≤ r.val, f r) = (∑ r : Fin 7 with q.val + 1 ≤ r.val, f r) + f q := by
  have h : (Finset.univ.filter fun r : Fin 7 => q.val ≤ r.val) = insert q (Finset.univ.filter fun r : Fin 7 => q.val + 1 ≤ r.val) := by
    ext r
    simp only [Finset.mem_filter, Finset.mem_univ, true_and, Finset.mem_insert, Fin.ext_iff]
    omega
  rw [h, Finset.sum_insert (by simp), add_comm]

theorem OR_peel (c : Dev nD) (q : Fin 7) : OR c q.val = OR c (q.val + 1) + tallyAt (recvCell (up q c) q) () N := sum_peel _ q
theorem OB_peel (c : Dev nD) (q : Fin 7) : OB c q.val = OB c (q.val + 1) + tallyAt (barCell (up q c)) () 1 := by
  unfold OB; rw [sum_peel _ q, add_assoc]
theorem OR_end (c : Dev nD) : OR c 7 = 0 := Finset.sum_eq_zero fun r hr => by
  have := (Finset.mem_filter.mp hr).2; omega
theorem OB_end (c : Dev nD) : OB c 7 = OR c 0 := by
  unfold OB
  rw [show (∑ r : Fin 7 with 7 ≤ r.val, tallyAt (barCell (up r c)) () 1 : CellTallies nD τ sig Unit) = 0 from Finset.sum_eq_zero fun r hr => by
    have := (Finset.mem_filter.mp hr).2; omega, add_zero]

theorem sum_at (f : Fin 7 → CellTallies nD τ sig Unit) (p : Finset (Fin 7)) (g : GSem nD τ sig) (u : Unit) :
    (∑ r ∈ p, f r) g u = ∑ r ∈ p, f r g u := by
  rw [Finset.sum_apply, Finsupp.finset_sum_apply]

theorem OR_pos {c : Dev nD} {k : ℕ} {g : GSem nD τ sig} {u : Unit} (h : 0 < OR c k g u) : ∃ r, g = recvCell (up r c) r := by
  unfold OR at h
  rw [sum_at] at h
  obtain ⟨r, -, hr⟩ := Finset.exists_ne_zero_of_sum_ne_zero (Nat.pos_iff_ne_zero.mp h)
  rw [tallyAt_apply] at hr
  by_contra hn
  exact hr (if_neg fun h' => hn ⟨r, h'.1⟩)

theorem OB_pos {c : Dev nD} {k : ℕ} {g : GSem nD τ sig} {u : Unit} (h : 0 < OB c k g u) :
    (∃ r, g = recvCell (up r c) r) ∨ ∃ r, g = barCell (up r c) := by
  unfold OB at h
  rw [Pi.add_apply, Finsupp.add_apply] at h
  rcases Nat.pos_iff_ne_zero.mp h |> fun h => (Nat.add_eq_zero_iff.not.mp h |> not_and_or.mp) with h1 | h1
  · exact .inl (OR_pos (Nat.pos_of_ne_zero h1))
  · rw [sum_at] at h1
    obtain ⟨r, -, hr⟩ := Finset.exists_ne_zero_of_sum_ne_zero h1
    rw [tallyAt_apply] at hr
    by_contra hn
    exact hr (if_neg fun h' => hn (.inr ⟨r, h'.1⟩))

/-- Levels: a barrier cell lies below the receive cells, everything else below both. -/
def lv (g : GSem nD τ sig) (_ : Unit) : ℕ := match role g.2 with | some (.inl _) => 1 | some (.inr (.inr _)) => 2 | _ => 0
def L (g : GSem nD τ sig) : Finset Unit := if g.1.2 = .tc then {()} else ∅

theorem L_off (g : GSem nD τ sig) (h : g.1.2 ≠ .tc) : L g = ∅ := if_neg h
theorem mem_L (c : Dev nD) (sm : SemLoc sig) (u : Unit) : u ∈ L ((c : Thread nD τ), sm) := by
  rw [L, if_pos rfl]; exact Finset.mem_singleton_self _
theorem lv_bar (c : Dev nD) (u : Unit) : lv (barCell c) u = 1 := by dsimp only [lv]; rw [role_bar]
theorem lv_recv (c : Dev nD) (r : Fin 7) (u : Unit) : lv (recvCell c r) u = 2 := by dsimp only [lv]; rw [role_recv]

/-- A device may wait on a cell of level at most `k` while all it owes lies above `k`. -/
theorem mayWait_above (c : Dev nD) (sm : SemLoc sig) (O : CellTallies nD τ sig Unit) (k : ℕ) (hk : lv ((c : Thread nD τ), sm) () ≤ k)
    (hO : ∀ g u, 0 < O g u → k < lv g u ∧ ∃ (c' : Dev nD) (sm' : SemLoc sig), g = ((c' : Thread nD τ), sm')) :
    (levAts L lv : sProp 𝕄) ⊢ MayWait (c : Thread nD τ) sm () O :=
  MayOwe.of_cut (L := L) (lev := lv) k
    (fun p hp => by rw [Finset.mem_singleton.mp hp]; exact mem_L c sm _)
    (fun g u hg => by obtain ⟨-, c', sm', rfl⟩ := hO g u hg; exact mem_L c' sm' u)
    (fun p hp => by rw [Finset.mem_singleton.mp hp]; exact hk)
    (fun g u hg => (hO g u hg).1)

/-- So it may wait on its barrier owing its transfers, -/
theorem mayWait_bar (c : Dev nD) : (levAts L lv : sProp 𝕄) ⊢ MayWait (c : Thread nD τ) (.reg barS) () (OR c 0) :=
  mayWait_above c _ _ 1 (by rw [show lv ((c : Thread nD τ), .reg barS) () = 1 from lv_bar c ()]) fun g u hg => by
    obtain ⟨r, rfl⟩ := OR_pos hg
    exact ⟨by rw [lv_recv]; decide, _, _, rfl⟩

/-- and on its staging semaphores owing everything, or nothing. -/
theorem mayWait_stage (c : Dev nD) (q : DmaSem sig) (hq : role (.dma q) = none) (O : CellTallies nD τ sig Unit) (hO : O = OB c 0 ∨ O = 0) :
    (levAts L lv : sProp 𝕄) ⊢ MayWait (c : Thread nD τ) (.dma q) () O := by
  refine mayWait_above c _ _ 0 (by dsimp only [lv]; rw [hq]) fun g u hg => ?_
  rcases hO with rfl | rfl
  · rcases OB_pos hg with ⟨r, rfl⟩ | ⟨r, rfl⟩
    · exact ⟨by rw [lv_recv]; decide, _, _, rfl⟩
    · exact ⟨by rw [lv_bar]; decide, _, _, rfl⟩
  · exact absurd hg (Nat.lt_irrefl 0)

end Cert.KernelIdealProof

end
-- ==== Proof.Steps.lean ====
/-
# The steps of the exchange, each stated once for every peer

A signal to a peer; the wait on the barrier; the block computed for a peer and sent to it; an arrival waited for and
read; a departure waited for. Each is stated over the stretch of program it covers, with the literal slot number,
device and offset word of the printed program as parameters, so that the body's proof names the peer and no more.
-/
module

public import proofs.«01_k».proof.Proof.Common

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Every cell of the exchange: its invariant, under the name `K` gives it, and that its round 0 is reached. -/
def records (K : Dev nD × CK → ℕ) : sProp 𝕄 :=
  iprop((bigSep Finset.univ fun ck : Dev nD × CK => cellInv ER (exRd m ρ) (K ck) (kcell ck))
    ∗ bigSep Finset.univ fun ck : Dev nD × CK => reached ER (kcell ck) 0)

instance records_persistent (K : Dev nD × CK → ℕ) : BI.Persistent (records m ρ K) := by unfold records; infer_instance

variable (K : Dev nD × CK → ℕ)

/-- One cell's invariant and mark out of them. -/
theorem record_at (ck : Dev nD × CK) :
    records m ρ K ⊢ iprop(cellInv ER (exRd m ρ) (K ck) (kcell ck) ∗ reached ER (kcell ck) 0) := by
  unfold records
  iintro ⟨HI, HR⟩
  isplitl [HI]
  · ihave H := (show (bigSep Finset.univ fun ck : Dev nD × CK => (cellInv ER (exRd m ρ) (K ck) (kcell ck) : sProp 𝕄))
      ⊢ cellInv ER (exRd m ρ) (K ck) (kcell ck) from bigSep_elim (Finset.mem_univ ck)) $$ HI
    iexact H
  · ihave H := (show (bigSep Finset.univ fun ck : Dev nD × CK => (reached ER (kcell ck) 0 : sProp 𝕄))
      ⊢ reached ER (kcell ck) 0 from bigSep_elim (Finset.mem_univ ck)) $$ HR
    iexact H

/-- What a device owes, at some record of the waits it has made. -/
def owesE (c : Dev nD) (O : CellTallies nD τ sig Unit) : sProp 𝕄 := iprop(∃ W, owes (c : Thread nD τ) O W)

/-- The signal to peer `r`: its duty on that peer's barrier, handing over the slot the peer writes here. -/
theorem signal_step (c : Dev nD) (r r' : Fin 7) (hr : r' = rev r) (j j' : ℕ) (hj : j = r.val) (hj' : j' = r.val + 1) (n : Dev nD) (hn : n = up r c) (a : ℤ) (ha : a = ((1 : ℕ) : ℤ))
    {α : Type} {Q : α → sProp 𝕄} {k : PUnit → Prog (TpuEff nD τ sig (Elt F) Λ₀ .tc) α} :
    records m ρ K ⊢ iprop(owesE c (OB c j) -∗ dutyTok ER (barCell (up r c)) 0 r -∗ (∃ f, rslot (F := F) c (sl r') f)
      -∗ (owesE c (OB c j') -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS a) k) Q) := by
  subst hn ha hr hj hj'
  unfold owesE
  iintro #HR ⟨%W, HO⟩ Ht Hs Hk
  ihave Hc := (record_at m ρ K (up r c, .inl ())) $$ HR
  icases Hc with ⟨#HI, #Hr⟩
  iapply (Rounds.wp_signal 𝒱₀ ER (exRd m ρ) (c : Thread nD τ) none (dst := (up r c : Thread nD τ)) (κ := K (up r c, .inl ()))
      (d := r) (by rw [duties_bar]; exact Finset.mem_univ _) (amount_bar m ρ (up r c) r) () (OB c (r.val + 1)) (OB_peel c r))
    $$ [HO Ht Hs]
  · isplitr; · iexact HI
    isplitl [HO]; · iexact HO
    isplitl [Ht]; · iexact Ht
    isplitl [Hs]
    · rw [payload_bar]; unfold barPay; rw [dn_up]; iexact Hs
    · iexact Hr
  iintro HO
  iapply Hk
  iexists W; iexact HO

/-- The wait for the seven units of its own barrier: the slot in each peer's receive buffer, and the barrier's counter at
    zero again. -/
theorem barrier_step (c : Dev nD) (a : ℤ) (ha : a = ((7 : ℕ) : ℤ)) {α : Type} {Q : α → sProp 𝕄} {k : PUnit → Prog (TpuEff nD τ sig (Elt F) Λ₀ .tc) α} :
    records m ρ K ⊢ iprop(levAts L lv -∗ cred (tallyAt (barCell c) () 7) -∗ owesE c (OR c 0) -∗ atPos ER (barCell c) 0 ∅ 0
      -∗ ((owesE c (OR c 0) ∗ semVal (barCell c) 0 ∗ bigSep Finset.univ fun r : Fin 7 => iprop(∃ f, rslot (F := F) (up r c) (sl r) f))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS a) k) Q) := by
  subst ha
  unfold owesE
  iintro #HR #Hlev Hc ⟨%W, HO⟩ Hat Hk
  ihave Hi := (record_at m ρ K (c, .inl ())) $$ HR
  icases Hi with ⟨#HI, -⟩
  iapply (Rounds.wp_wait_rest_token 𝒱₀ ER (exRd m ρ) (c : Thread nD τ) none (κ := K (c, .inl ()))
      (wpE_semWait_eq 𝒱₀ (c : Thread nD τ) none Set.univ) (Set.mem_univ _) () (O := OR c 0) (W := W) (R := 0) (m := 0) (T := ∅)
      (by rw [Nat.zero_add]; exact (expect_bar m ρ c).symm)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (exRd m ρ) (Set.mem_univ (K (c, .inl ()))) (fun h => h) (R := 0 + 1) (duties_later m ρ (barCell c))) $$ [Hat] with Hz
  · isplitr; · iexact HI
    iexact Hat
  iapply Hk
  isplitl [HO]; · iexists _; iexact HO
  isplitl [Hz]; · iexact Hz
  iexact Hp

/-- The tokens, the experts' matrices and the weights, as the body holds them once computed. -/
def held (c : Dev nD) : sProp 𝕄 :=
  iprop((((c : Thread nD τ).loc cc0_scratch0) ↦{fullShare} xbC m ρ c) ∗ (((c : Thread nD τ).loc cc0_scratch1) ↦{fullShare} wcC m ρ c)
    ∗ ((c : Thread nD τ).loc cc0_scratch2) ↦{fullShare} coC m ρ c)

omit [FloatOps F] in
theorem hz2 : (![0, 0] : Fin 2 → Nat) = fun _ => 0 := funext fun a => by fin_cases a <;> rfl

set_option maxHeartbeats 2000000 in
/-- The transfer of slot `r + 1` to peer `r`, the slot holding the block computed for that peer. -/
theorem transfer_step (c : Dev nD) (r : Fin 7) (j j' : ℕ) (hj : j = r.val) (hj' : j' = r.val + 1) (n : Dev nD) (hn : n = up r c)
    {hsc : (rV (sl r)).view.ref.isScScratch = false} {hsrc : (sV (sl r)).view.WordExact} {hdst : (rV (sl r)).view.WordExact}
    {hsem : DmaTarget.Typed .vmem (.dma (recvS r)) (.remote (Dev.tc n : Thread nD τ) (rV (sl r)) (.dma (sendS r)) hsc)}
    (f : Buf (Elt F) ((c : Thread nD τ).loc cc0_scratch3)) (hf : sM.view.readAt (Elt F) (slotR (sl r)).toLoadRect f = chunk m ρ c r)
    {α : Type} {Q : α → sProp 𝕄} {k : PUnit → Prog (TpuEff nD τ sig (Elt F) Λ₀ .tc) α} :
    records m ρ K ⊢ iprop(sslot c (sl r) f -∗ (∃ g, rslot (F := F) (up r c) (sl r) g) -∗ owesE c (OR c j)
        -∗ dutyTok ER (sendCell c r) 0 0 -∗ dutyTok ER (recvCell (up r c) r) 0 0
      -∗ ((cred (tallyAt (sendCell c r) () N) ∗ owesE c (OR c j'))
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (sV (sl r)) (.remote (Dev.tc n : Thread nD τ) (rV (sl r)) (.dma (sendS r)) hsc) (.dma (recvS r)) hsrc hdst hsem) k) Q) := by
  subst hn hj hj'
  unfold owesE
  iintro #HR Hs ⟨%g, Hr⟩ ⟨%W, HO⟩ Hts Htr Hk
  ihave Hc := (record_at m ρ K (c, .inr (.inl r))) $$ HR
  icases Hc with ⟨#HIs, #Hrs⟩
  ihave Hc := (record_at m ρ K (up r c, .inr (.inr r))) $$ HR
  icases Hc with ⟨#HIr, #Hrr⟩
  iapply (Rounds.wp_send_pointsTo 𝒱₀ ER (exRd m ρ) (c : Thread nD τ) none (κ₁ := K (c, .inr (.inl r))) (κ₂ := K (up r c, .inr (.inr r)))
      (c' := (up r c : Thread nD τ)) (src := sV (sl r)) (dst := rV (sl r)) (sS := .dma (sendS r)) (sem := .dma (recvS r)) (hsc := hsc) (hsrc := hsrc) (hdst := hdst) (hsem := hsem)
      (r₁ := 0) (r₂ := 0) (d₁ := 0) (d₂ := 0) (fs := f) (fd := g) (q := fullShare)
      (by rw [duties_send]; exact Finset.mem_singleton_self _) (by rw [duties_recv]; exact Finset.mem_singleton_self _)
      () () N rfl (amount_send m ρ c r 0) (amount_recv m ρ (up r c) r 0) (OR c (r.val + 1)) (OR_peel c r) (W := W)
      (by rw [payload_send, sV_set]; unfold sendPay sslot; iintro H; iexists f; iexact H)
      (by
        rw [payload_recv, rV_set]; unfold recvPay rslot
        iintro H; iexists _; isplitr
        · ipureintro
          exact (slot_landed (sl r) g f).trans (hf.trans (by rw [inc, dn_up]))
        · iexact H)) $$ [Hs Hr HO Hts Htr]
  · isplitr; · iexact HIs
    isplitr; · iexact HIr
    isplitl [Hs]; · rw [sV_set]; unfold sslot; iexact Hs
    isplitl [Hr]; · rw [rV_set]; unfold rslot; iexact Hr
    isplitl [HO]; · iexact HO
    isplitl [Hts]; · iexact Hts
    isplitr; · iexact Hrs
    isplitl [Htr]; · iexact Htr
    iexact Hrr
  iintro ⟨Hcr, HO⟩
  iapply Hk
  isplitl [Hcr]; · iexact Hcr
  iexists W; iexact HO

set_option maxHeartbeats 2000000 in
/-- The block for peer `r` computed, stored in its slot and sent: six operations of the program. -/
theorem send_step (c : Dev nD) (r : Fin 7) (j j' : ℕ) (hj : j = r.val) (hj' : j' = r.val + 1) (n : Dev nD) (hn : n = up r c) (s : ℕ) (hs : s = (sl r).val) (w : BitVec 32) (hw : w = BitVec.ofNat 32 (1 + r.val))
    (pay : FVec F S64x256 .bf16 → FVec F S256x2048 .bf16 → FVec F S64x4 .f32 → FVec F S1x64x512 .bf16) (hpay : pay = k0_pay9)
    {i1 : ∀ a, k0_off1 c w a + S64x256.size a ≤ S512x256.size a} {i2 : ∀ a, k0_off2 c w a + S64x4.size a ≤ S512x4.size a}
    {i3 : ∀ a, (![s, 0, 0] : Fin 3 → Nat) a + S1x64x512.size a ≤ S8x64x512.size a} {i4 : ∀ a, (![s] : Fin 1 → Nat) a + S1.size a ≤ S8.size a}
    {l1 : xbM.view.LoadsAt (Rect.unit (s := S512x256) (k0_off1 c w) S64x256.size i1).toLoadRect}
    {l2 : wcM.view.LoadsAt (Rect.unit (s := S256x2048) ![0, 0] S256x2048.size inb_S256x2048_S256x2048_0_0).toLoadRect}
    {l3 : coM.view.LoadsAt (Rect.unit (s := S512x4) (k0_off2 c w) S64x4.size i2).toLoadRect}
    {l4 : sM.view.LoadsAt (Rect.unit (s := S8x64x512) ![s, 0, 0] S1x64x512.size i3).toLoadRect}
    {hx : (sM.access (Rect.unit (s := S8x64x512) ![s, 0, 0] S1x64x512.size i3)).Stores Finset.univ}
    {hm : (Finset.univ : Finset (Rect.unit (s := S8x64x512) ![s, 0, 0] S1x64x512.size i3).shape.Idx) = Finset.univ ∨ ∀ a, (Rect.unit (s := S8x64x512) ![s, 0, 0] S1x64x512.size i3).stride a = 1}
    {hsc : ((rM.slice (Rect.unit (s := S8x64x512) ![s, 0, 0] S1x64x512.size i3) (fun _ => rfl)).squeeze S64x512 squeezes_S1x64x512_S64x512).view.ref.isScScratch = false}
    {hsrc : ((sM.slice (Rect.unit (s := S8x64x512) ![s, 0, 0] S1x64x512.size i3) (fun _ => rfl)).squeeze S64x512 squeezes_S1x64x512_S64x512).view.WordExact}
    {hdst : ((rM.slice (Rect.unit (s := S8x64x512) ![s, 0, 0] S1x64x512.size i3) (fun _ => rfl)).squeeze S64x512 squeezes_S1x64x512_S64x512).view.WordExact}
    {hsem : DmaTarget.Typed .vmem (.dma ((cc0_scratch6.slice (Rect.unit (s := S8) ![s] S1.size i4)).squeeze S_ squeezes_S1_S_).sem)
      (.remote (Dev.tc n : Thread nD τ) ((rM.slice (Rect.unit (s := S8x64x512) ![s, 0, 0] S1x64x512.size i3) (fun _ => rfl)).squeeze S64x512 squeezes_S1x64x512_S64x512)
        (.dma ((cc0_scratch5.slice (Rect.unit (s := S8) ![s] S1.size i4)).squeeze S_ squeezes_S1_S_).sem) hsc)}
    {α : Type} {Q : α → sProp 𝕄} {k : PUnit → Prog (TpuEff nD τ sig (Elt F) Λ₀ .tc) α} :
    records m ρ K ⊢ iprop(held m ρ c -∗ (∃ f, sslot (F := F) c (sl r) f) -∗ (∃ g, rslot (F := F) (up r c) (sl r) g) -∗ owesE c (OR c j)
        -∗ dutyTok ER (sendCell c r) 0 0 -∗ dutyTok ER (recvCell (up r c) r) 0 0
      -∗ ((held m ρ c ∗ cred (tallyAt (sendCell c r) () N) ∗ owesE c (OR c j'))
            -∗ wp frame (wpE (defs₀ (F := F)) 𝒱₀ (c : Thread nD τ) none) Set.univ (k ⟨⟩) Q)
          -∗ wp frame (wpE (defs₀ (F := F)) 𝒱₀ (c : Thread nD τ) none) Set.univ
            (.op (.load xbM (Rect.unit (s := S512x256) (k0_off1 c w) S64x256.size i1).toLoadRect l1) fun (v1 : Vec F S64x256 .bf16) =>
             .op (.load wcM (Rect.unit (s := S256x2048) ![0, 0] S256x2048.size inb_S256x2048_S256x2048_0_0).toLoadRect l2) fun (v2 : Vec F S256x2048 .bf16) =>
             .op (.load coM (Rect.unit (s := S512x4) (k0_off2 c w) S64x4.size i2).toLoadRect l3) fun (v3 : Vec F S64x4 .f32) =>
             .op (.load sM (Rect.unit (s := S8x64x512) ![s, 0, 0] S1x64x512.size i3).toLoadRect l4) fun (_ : Vec F S1x64x512 .bf16) =>
             .op (.store sM (Rect.unit (s := S8x64x512) ![s, 0, 0] S1x64x512.size i3) (pay v1 v2 v3) Finset.univ hx hm) fun _ =>
             .op (.enqueueDma ((sM.slice (Rect.unit (s := S8x64x512) ![s, 0, 0] S1x64x512.size i3) (fun _ => rfl)).squeeze S64x512 squeezes_S1x64x512_S64x512)
                (.remote (Dev.tc n : Thread nD τ) ((rM.slice (Rect.unit (s := S8x64x512) ![s, 0, 0] S1x64x512.size i3) (fun _ => rfl)).squeeze S64x512 squeezes_S1x64x512_S64x512)
                  (.dma ((cc0_scratch5.slice (Rect.unit (s := S8) ![s] S1.size i4)).squeeze S_ squeezes_S1_S_).sem) hsc)
                (.dma ((cc0_scratch6.slice (Rect.unit (s := S8) ![s] S1.size i4)).squeeze S_ squeezes_S1_S_).sem) hsrc hdst hsem) k) Q) := by
  subst hs hw hpay
  unfold held
  iintro #HR ⟨Hxb, Hwc, Hco⟩ ⟨%f, Hs⟩ Hr HO Hts Htr Hk
  iapply (wp_load 𝒱₀ (c : Thread nD τ) none Set.univ (m := xbM) (Finset.subset_univ _)) $$ Hxb; iintro Hxb
  iapply (wp_load 𝒱₀ (c : Thread nD τ) none Set.univ (m := wcM) (Finset.subset_univ _)) $$ Hwc; iintro Hwc
  rw [show wcM.view.readAt (Elt F) (Rect.unit (s := S256x2048) ![0, 0] S256x2048.size inb_S256x2048_S256x2048_0_0).toLoadRect (wcC m ρ c) = wcC m ρ c
    from Memref.readAt_unit_zero (Elt F) cc0_scratch1 hz2 _ (wcC m ρ c)]
  iapply (wp_load 𝒱₀ (c : Thread nD τ) none Set.univ (m := coM) (Finset.subset_univ _)) $$ Hco; iintro Hco
  unfold sslot
  iapply (wp_load_rect 𝒱₀ (c : Thread nD τ) none Set.univ (m := sM) (r := slotR (sl r)) (S := (slotR (sl r)).set) (by rw [show (sM.access (slotR (sl r))).set = (slotR (sl r)).set from View.set_slice_whole _ _])) $$ Hs; iintro Hs
  iapply (wp_store 𝒱₀ (c : Thread nD τ) none Set.univ (m := sM) (r := slotR (sl r)) (Mk := Finset.univ) (S := (slotR (sl r)).set)
    (by rw [View.setOn_univ, show (sM.access (slotR (sl r))).set = (slotR (sl r)).set from View.set_slice_whole _ _])) $$ Hs; iintro Hs
  iapply (transfer_step m ρ K c r j j' hj hj' n hn ((sM.access (slotR (sl r)) : View sig .tc _ _ _).write (Elt F) f (chunk m ρ c r) Finset.univ)
    (View.read_write_univ (v := (sM.access (slotR (sl r)) : View sig .tc _ _ _)) f (chunk m ρ c r))) $$ HR [Hs] Hr HO Hts Htr
  · unfold sslot; iexact Hs
  iintro ⟨Hcr, HO⟩
  iapply Hk
  isplitl [Hxb Hwc Hco]
  · isplitl [Hxb]; · iexact Hxb
    isplitl [Hwc]; · iexact Hwc
    iexact Hco
  isplitl [Hcr]; · iexact Hcr
  iexact HO

/-- The arrival of slot `r + 1` waited for and read: the sender's block; the slot and the semaphore's counter are the
    device's again. -/
theorem recv_step (c : Dev nD) (r : Fin 7) (s : ℕ) (hs : s = (sl r).val)
    {i3 : ∀ a, (![s, 0, 0] : Fin 3 → Nat) a + S1x64x512.size a ≤ S8x64x512.size a} {i4 : ∀ a, (![s] : Fin 1 → Nat) a + S1.size a ≤ S8.size a}
    {hsrc : ((sM.slice (Rect.unit (s := S8x64x512) ![s, 0, 0] S1x64x512.size i3) (fun _ => rfl)).squeeze S64x512 squeezes_S1x64x512_S64x512).view.WordExact}
    {hdst : ((rM.slice (Rect.unit (s := S8x64x512) ![s, 0, 0] S1x64x512.size i3) (fun _ => rfl)).squeeze S64x512 squeezes_S1x64x512_S64x512).view.WordExact}
    {l4 : rM.view.LoadsAt (Rect.unit (s := S8x64x512) ![s, 0, 0] S1x64x512.size i3).toLoadRect}
    {α : Type} {Q : α → sProp 𝕄} {k : Vec F S1x64x512 .bf16 → Prog (TpuEff nD τ sig (Elt F) Λ₀ .tc) α} :
    records m ρ K ⊢ iprop(cred (tallyAt (recvCell c r) () N) -∗ owesE c 0 -∗ atPos ER (recvCell c r) 0 ∅ 0
      -∗ ((owesE c 0 ∗ semVal (recvCell c r) 0 ∗ ∃ f, rslot (F := F) c (sl r) f)
            -∗ wp frame (wpE (defs₀ (F := F)) 𝒱₀ (c : Thread nD τ) none) Set.univ (k (inc m ρ c r)) Q)
          -∗ wp frame (wpE (defs₀ (F := F)) 𝒱₀ (c : Thread nD τ) none) Set.univ
            (.op (.waitDma2 ((cc0_scratch6.slice (Rect.unit (s := S8) ![s] S1.size i4)).squeeze S_ squeezes_S1_S_).sem
                ((sM.slice (Rect.unit (s := S8x64x512) ![s, 0, 0] S1x64x512.size i3) (fun _ => rfl)).squeeze S64x512 squeezes_S1x64x512_S64x512)
                ((rM.slice (Rect.unit (s := S8x64x512) ![s, 0, 0] S1x64x512.size i3) (fun _ => rfl)).squeeze S64x512 squeezes_S1x64x512_S64x512) hsrc hdst) fun _ =>
             .op (.load rM (Rect.unit (s := S8x64x512) ![s, 0, 0] S1x64x512.size i3).toLoadRect l4) fun (v : Vec F S1x64x512 .bf16) => k v) Q) := by
  subst hs
  unfold owesE
  iintro #HR Hc ⟨%W, HO⟩ Hat Hk
  ihave Hi := (record_at m ρ K (c, .inr (.inr r))) $$ HR
  icases Hi with ⟨#HI, -⟩
  iapply (Rounds.wp_wait_rest_token 𝒱₀ ER (exRd m ρ) (c : Thread nD τ) none (κ := K (c, .inr (.inr r)))
      (wpE_waitDma2_eq 𝒱₀ (c : Thread nD τ) none Set.univ) (Set.mem_univ _) () (O := 0) (W := W) (R := 0) (m := 0) (T := ∅)
      (by rw [Nat.zero_add]; exact (expect_recv m ρ c r).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m ρ c r)) $$ Hpay
  unfold recvPay rslot
  icases Hp with ⟨%f, %hf, Hs⟩
  imod (Rounds.cell_close ER (exRd m ρ) (Set.mem_univ (K (c, .inr (.inr r)))) (fun h => h) (R := 0 + 1) (duties_later m ρ (recvCell c r))) $$ [Hat] with Hz
  · isplitr; · iexact HI
    iexact Hat
  iapply (wp_load_rect 𝒱₀ (c : Thread nD τ) none Set.univ (m := rM) (r := slotR (sl r)) (S := (slotR (sl r)).set) (by rw [show (rM.access (slotR (sl r))).set = (slotR (sl r)).set from View.set_slice_whole _ _])) $$ Hs; iintro Hs
  rw [show (rM.access (slotR (sl r)) : View sig .tc _ _ _).read (Elt F) f = inc m ρ c r from hf]
  iapply Hk
  isplitl [HO]; · iexists _; iexact HO
  isplitl [Hz]; · iexact Hz
  iexists f; iexact Hs

/-- The departure of slot `r + 1` waited for: the slot and the semaphore's counter are the device's again. -/
theorem sent_step (c : Dev nD) (r : Fin 7) (s : ℕ) (hs : s = (sl r).val)
    {i3 : ∀ a, (![s, 0, 0] : Fin 3 → Nat) a + S1x64x512.size a ≤ S8x64x512.size a} {i4 : ∀ a, (![s] : Fin 1 → Nat) a + S1.size a ≤ S8.size a}
    {hdst : ((sM.slice (Rect.unit (s := S8x64x512) ![s, 0, 0] S1x64x512.size i3) (fun _ => rfl)).squeeze S64x512 squeezes_S1x64x512_S64x512).view.WordExact}
    {hsrc : ((rM.slice (Rect.unit (s := S8x64x512) ![s, 0, 0] S1x64x512.size i3) (fun _ => rfl)).squeeze S64x512 squeezes_S1x64x512_S64x512).view.WordExact}
    {α : Type} {Q : α → sProp 𝕄} {k : PUnit → Prog (TpuEff nD τ sig (Elt F) Λ₀ .tc) α} :
    records m ρ K ⊢ iprop(cred (tallyAt (sendCell c r) () N) -∗ owesE c 0 -∗ atPos ER (sendCell c r) 0 ∅ 0
      -∗ ((owesE c 0 ∗ semVal (sendCell c r) 0 ∗ ∃ f, sslot (F := F) c (sl r) f)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 ((cc0_scratch5.slice (Rect.unit (s := S8) ![s] S1.size i4)).squeeze S_ squeezes_S1_S_).sem
                ((rM.slice (Rect.unit (s := S8x64x512) ![s, 0, 0] S1x64x512.size i3) (fun _ => rfl)).squeeze S64x512 squeezes_S1x64x512_S64x512)
                ((sM.slice (Rect.unit (s := S8x64x512) ![s, 0, 0] S1x64x512.size i3) (fun _ => rfl)).squeeze S64x512 squeezes_S1x64x512_S64x512) hsrc hdst) k) Q) := by
  subst hs
  unfold owesE
  iintro #HR Hc ⟨%W, HO⟩ Hat Hk
  ihave Hi := (record_at m ρ K (c, .inr (.inl r))) $$ HR
  icases Hi with ⟨#HI, -⟩
  iapply (Rounds.wp_wait_rest_token 𝒱₀ ER (exRd m ρ) (c : Thread nD τ) none (κ := K (c, .inr (.inl r)))
      (wpE_waitDma2_eq 𝒱₀ (c : Thread nD τ) none Set.univ) (Set.mem_univ _) () (O := 0) (W := W) (R := 0) (m := 0) (T := ∅)
      (by rw [Nat.zero_add]; exact (expect_send m ρ c r).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m ρ c r)) $$ Hpay
  imod (Rounds.cell_close ER (exRd m ρ) (Set.mem_univ (K (c, .inr (.inl r)))) (fun h => h) (R := 0 + 1) (duties_later m ρ (sendCell c r))) $$ [Hat] with Hz
  · isplitr; · iexact HI
    iexact Hat
  iapply Hk
  isplitl [HO]; · iexists _; iexact HO
  isplitl [Hz]; · iexact Hz
  unfold sendPay; iexact Hp

end Cert.KernelIdealProof

end
-- ==== Proof.Body.lean ====
/-
# The kernel's body, from its start to its end

What a device starts from and ends with, the pipeline's proof data, and the body executed one effect after the other:
seven signals, the weights and the experts' matrices laid out, the barrier, seven blocks computed and sent, its own part,
seven arrivals added, seven departures waited for.
-/
module

public import proofs.«01_k».proof.Proof.Steps
public import Idealize.ShloMosaic.Lib.Ring

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Slots of an exchange buffer -/

omit [FloatOps F] in
/-- Seven conjuncts, one per peer. -/
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
/-- Eight conjuncts, one per slot. -/
theorem bigSep_fin8 (Φ : Fin 8 → sProp 𝕄) :
    bigSep Finset.univ Φ = iprop(Φ 0 ∗ Φ (sl 0) ∗ Φ (sl 1) ∗ Φ (sl 2) ∗ Φ (sl 3) ∗ Φ (sl 4) ∗ Φ (sl 5) ∗ Φ (sl 6)) :=
  bigSep_univ_eq_bigSepL [0, sl 0, sl 1, sl 2, sl 3, sl 4, sl 5, sl 6] (by decide) (by decide) Φ

theorem slot_disjoint (b b' : Fin 8) (h : b ≠ b') : Disjoint (slotR b).set (slotR b').set :=
  lead_disjoint (s := S8x64x512) 0 1 (fun b : Fin 8 => ![b.val, 0, 0]) S1x64x512.size (fun b => inbSlot b.val b.isLt) (fun b => (Nat.one_mul _).symm) rfl b b' h
theorem slot_cover : Finset.univ.biUnion (fun b : Fin 8 => (slotR b).set) = Finset.univ :=
  lead_cover (s := S8x64x512) 0 1 (fun b : Fin 8 => ![b.val, 0, 0]) S1x64x512.size (fun b => inbSlot b.val b.isLt) (fun b => (Nat.one_mul _).symm)
    (fun b a ha => by fin_cases a; · exact absurd rfl ha
                      · rfl
                      · rfl) rfl
    (fun a ha => by fin_cases a; · exact absurd rfl ha
                    · rfl
                    · rfl) rfl

/-- The send buffer held whole is its eight slots held, -/
theorem send_split (c : Dev nD) (f : Buf (Elt F) ((c : Thread nD τ).loc cc0_scratch3)) :
    ((((c : Thread nD τ).loc cc0_scratch3) ↦{fullShare} f : sProp 𝕄)) ⊢ bigSep Finset.univ fun k : Fin 8 => iprop(∃ f, sslot (F := F) c k f) := by
  rw [pointsTo_blocks (fun b : Fin 8 => (slotR b).set) slot_disjoint slot_cover f]
  exact bigSep_mono fun k _ => show sslot c k f ⊢ iprop(∃ f, sslot (F := F) c k f) from by iintro H; iexists f; iexact H
/-- and back. -/
theorem send_join (m : (ℓ : Loc nD τ sig) → Buf (Elt F) ℓ) (c : Dev nD) :
    (bigSep Finset.univ fun k : Fin 8 => iprop(∃ f, sslot (F := F) c k f)) ⊢ (iprop(∃ f, ((c : Thread nD τ).loc cc0_scratch3) ↦{fullShare} f) : sProp 𝕄) := by
  unfold sslot
  exact pointsTo_blocks_join_exists (ℓ := (c : Thread nD τ).loc cc0_scratch3) (q := fullShare) (fun b : Fin 8 => (slotR b).set) slot_disjoint slot_cover
    (m ((c : Thread nD τ).loc cc0_scratch3))
/-- The receive buffer held whole is its eight slots held, -/
theorem recv_split (c : Dev nD) (f : Buf (Elt F) ((c : Thread nD τ).loc cc0_scratch4)) :
    ((((c : Thread nD τ).loc cc0_scratch4) ↦{fullShare} f : sProp 𝕄)) ⊢ bigSep Finset.univ fun k : Fin 8 => iprop(∃ f, rslot (F := F) c k f) := by
  rw [pointsTo_blocks (fun b : Fin 8 => (slotR b).set) slot_disjoint slot_cover f]
  exact bigSep_mono fun k _ => show rslot c k f ⊢ iprop(∃ f, rslot (F := F) c k f) from by iintro H; iexists f; iexact H
/-- and back. -/
theorem recv_join (m : (ℓ : Loc nD τ sig) → Buf (Elt F) ℓ) (c : Dev nD) :
    (bigSep Finset.univ fun k : Fin 8 => iprop(∃ f, rslot (F := F) c k f)) ⊢ (iprop(∃ f, ((c : Thread nD τ).loc cc0_scratch4) ↦{fullShare} f) : sProp 𝕄) := by
  unfold rslot
  exact pointsTo_blocks_join_exists (ℓ := (c : Thread nD τ).loc cc0_scratch4) (q := fullShare) (fun b : Fin 8 => (slotR b).set) slot_disjoint slot_cover
    (m ((c : Thread nD τ).loc cc0_scratch4))

/-! ## What a device starts from and ends with -/

/-- What a device holds of the exchange for peer `r`: its place on its two cells, and the tokens of the three duties it
    pays: a unit of that peer's barrier, its own send cell's, that peer's receive cell's. -/
def share (c : Dev nD) (r : Fin 7) : sProp 𝕄 :=
  iprop(atPos ER (sendCell c r) 0 ∅ 0 ∗ atPos ER (recvCell c r) 0 ∅ 0
    ∗ dutyTok ER (barCell (up r c)) 0 r ∗ dutyTok ER (sendCell c r) 0 0 ∗ dutyTok ER (recvCell (up r c) r) 0 0)

/-- The exchange's state a device starts from, the cells' invariants under the names `K`. -/
def ghost (K : Dev nD × CK → ℕ) (c : Dev nD) : sProp 𝕄 :=
  iprop(records m ρ K ∗ atPos ER (barCell c) 0 ∅ 0 ∗ bigSep Finset.univ fun r : Fin 7 => share (F := F) c r)

set_option backward.proofsInPublic true in
/-- The kernel's own semaphores: the two arrays of eight. -/
abbrev osem : Fin 16 → SemLoc sig := fun k => .dma ⟨k.val + 6, by show k.val + 6 < 22; omega⟩

/-- The first semaphore of each array, which the kernel never uses, at zero. -/
def idle (c : Dev nD) : sProp 𝕄 := iprop(semVal ((c : Thread nD τ), osem 0) 0 ∗ semVal ((c : Thread nD τ), osem 8) 0)

/-- The credits of a device's own waits: seven units of its barrier, one block of each receive cell. -/
def credits (c : Dev nD) : sProp 𝕄 :=
  iprop(cred (tallyAt (barCell c) () 7) ∗ bigSep Finset.univ fun r : Fin 7 => cred (tallyAt (recvCell c r) () N))

def start (c : Dev nD) : sProp 𝕄 := iprop((∃ K, ghost m ρ K c) ∗ credits c ∗ levAts L lv ∗ idle c)

/-- The five scratch buffers at some contents. -/
def scratch (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f)
    ∗ (∃ f, ((c : Thread nD τ).loc cc0_scratch4) ↦{fullShare} f))

/-- Every semaphore of the kernel at zero. -/
def zeros (c : Dev nD) : sProp 𝕄 :=
  iprop(semVal (barCell c) 0 ∗ idle c ∗ bigSep Finset.univ fun r : Fin 7 => iprop(semVal (sendCell c r) 0 ∗ semVal (recvCell c r) 0))

def Φ₀ (c : Dev nD) : sProp 𝕄 := iprop(start m ρ c ∗ scratch c)
def Φ₁ (c : Dev nD) : sProp 𝕄 := iprop(scratch (F := F) c ∗ zeros c)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m ρ c
    | ⟨1, _⟩ => rwIn m ρ c
    | ⟨2, _⟩ => ixIn m ρ c
    | ⟨3, _⟩ => ewIn m ρ c
    | ⟨4, _⟩ => swIn m ρ c
    | ⟨5, _⟩ => outAt m ρ c
  Φ t := match t with
    | ⟨0, _⟩ => Φ₀ m ρ c
    | ⟨_ + 1, _⟩ => Φ₁ c
  q _ := fullShare
  owed t := match t with
    | ⟨0, _⟩ => OB c 0
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body

variable (K : Dev nD × CK → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The windows' staging buffers before the body. -/
def before (c : Dev nD) : sProp 𝕄 :=
  iprop((∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPre (c : Dev nD) : sProp 𝕄 :=
  iprop((ghost m ρ K c ∗ credits c ∗ levAts L lv ∗ idle c) ∗ scratch c ∗ (dats m ρ 0 c).owesAt () t0_0.castSucc ∗ before m ρ c)

def bodyPost (c : Dev nD) : sProp 𝕄 :=
  iprop(Φ₁ (F := F) c ∗ (dats m ρ 0 c).owesAt () t0_0.succ ∗ stg c cc0_stg0_0 (xIn m ρ c) ∗ stg c cc0_stg1_0 (rwIn m ρ c) ∗ stg c cc0_stg2_0 (ixIn m ρ c)
    ∗ stg c cc0_stg3_0 (ewIn m ρ c) ∗ stg c cc0_stg4_0 (swIn m ρ c) ∗ stg c cc0_stg5_0 (outAt m ρ c))

/-! A whole buffer read is its contents; a whole buffer written is what was written. -/

omit [FloatOps F] in
theorem rd_x (f : (cc0_stg0_0 : Ref sig .tc).ty.Contents (Elt F)) :
    xM.view.readAt (Elt F) (Rect.unit (s := S512x256) ![0, 0] S512x256.size inb_S512x256_S512x256_0_0).toLoadRect f = f := Memref.readAt_unit_zero (Elt F) cc0_stg0_0 hz2 _ f
omit [FloatOps F] in
theorem rd_rw (f : (cc0_stg1_0 : Ref sig .tc).ty.Contents (Elt F)) :
    rwM.view.readAt (Elt F) (Rect.unit (s := S256x32) ![0, 0] S256x32.size inb_S256x32_S256x32_0_0).toLoadRect f = f := Memref.readAt_unit_zero (Elt F) cc0_stg1_0 hz2 _ f
omit [FloatOps F] in
theorem rd_ix (f : (cc0_stg2_0 : Ref sig .tc).ty.Contents (Elt F)) :
    ixM.view.readAt (Elt F) (Rect.unit (s := S512x1) ![0, 0] S512x1.size inb_S512x1_S512x1_0_0).toLoadRect f = f := Memref.readAt_unit_zero (Elt F) cc0_stg2_0 hz2 _ f
omit [FloatOps F] in
theorem rd_sw (f : (cc0_stg4_0 : Ref sig .tc).ty.Contents (Elt F)) :
    swM.view.readAt (Elt F) (Rect.unit (s := S256x512) ![0, 0] S256x512.size inb_S256x512_S256x512_0_0).toLoadRect f = f := Memref.readAt_unit_zero (Elt F) cc0_stg4_0 hz2 _ f
omit [FloatOps F] in
theorem rd_wc (f : (cc0_scratch1 : Ref sig .tc).ty.Contents (Elt F)) :
    wcM.view.readAt (Elt F) (Rect.unit (s := S256x2048) ![0, 0] S256x2048.size inb_S256x2048_S256x2048_0_0).toLoadRect f = f := Memref.readAt_unit_zero (Elt F) cc0_scratch1 hz2 _ f
omit [FloatOps F] in
theorem wr_xb (f w : (cc0_scratch0 : Ref sig .tc).ty.Contents (Elt F)) :
    (xbM.access (Rect.unit (s := S512x256) ![0, 0] S512x256.size inb_S512x256_S512x256_0_0) : View sig .tc _ _ _).write (Elt F) f w Finset.univ = w := Memref.write_access_unit_zero_univ (Elt F) cc0_scratch0 hz2 _ f w
omit [FloatOps F] in
theorem wr_co (f w : (cc0_scratch2 : Ref sig .tc).ty.Contents (Elt F)) :
    (coM.access (Rect.unit (s := S512x4) ![0, 0] S512x4.size inb_S512x4_S512x4_0_0) : View sig .tc _ _ _).write (Elt F) f w Finset.univ = w := Memref.write_access_unit_zero_univ (Elt F) cc0_scratch2 hz2 _ f w
omit [FloatOps F] in
theorem wr_o (f w : (cc0_stg5_0 : Ref sig .tc).ty.Contents (Elt F)) :
    (oM.access (Rect.unit (s := S64x512) ![0, 0] S64x512.size inb_S64x512_S64x512_0_0) : View sig .tc _ _ _).write (Elt F) f w Finset.univ = w := Memref.write_access_unit_zero_univ (Elt F) cc0_stg5_0 hz2 _ f w

set_option maxHeartbeats 8000000 in
/-- The body, executed from `bodyPre` one rule per effect in program order, to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) cc0_scratch5 cc0_scratch6) Kt := by
  simp only [cc0_body_eq_skeleton]; unfold cc0_body_skel
  simp only [k0_part20_eq_skeleton]; unfold k0_part20_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel
  simp only [semSignalWord, semWaitWord, Prog.lift, Prog.bind_op, Prog.bind_ret, Prog.pure_eq_ret, wp_deviceId]
  unfold bodyPre ghost credits scratch before
  rw [bigSep_fin7, bigSep_fin7]
  unfold share
  iintro ⟨⟨⟨⟨#HR, HatB, ⟨⟨HaS0, HaV0, HtB0, HtS0, HtV0⟩, ⟨HaS1, HaV1, HtB1, HtS1, HtV1⟩, ⟨HaS2, HaV2, HtB2, HtS2, HtV2⟩, ⟨HaS3, HaV3, HtB3, HtS3, HtV3⟩, ⟨HaS4, HaV4, HtB4, HtS4, HtV4⟩, ⟨HaS5, HaV5, HtB5, HtS5, HtV5⟩, ⟨HaS6, HaV6, HtB6, HtS6, HtV6⟩⟩⟩,
      ⟨HcB, HcV0, HcV1, HcV2, HcV3, HcV4, HcV5, HcV6⟩, #Hlev, Hidle⟩,
    ⟨⟨%f0, Hxb⟩, ⟨%f1, Hwc⟩, ⟨%f2, Hco⟩, ⟨%f3, Hsb⟩, ⟨%f4, Hrb⟩⟩, Ho,
    ⟨%d0, %g0, %hg0, Hx⟩, ⟨%d1, %g1, %hg1, Hrw⟩, ⟨%d2, %g2, %hg2, Hix⟩, ⟨%d3, %g3, %hg3, Hew⟩, ⟨%d4, %g4, %hg4, Hsw⟩, ⟨%d5, %g5, %hg5, Hout⟩⟩, Hk⟩
  have hx : g0 = xIn m ρ c := by rw [hg0]; unfold Dat.before; rw [if_pos (fetch0_0 t0_0)]; rfl
  have hrw : g1 = rwIn m ρ c := by rw [hg1]; unfold Dat.before; rw [if_pos (fetch0_1 t0_0)]; rfl
  have hix : g2 = ixIn m ρ c := by rw [hg2]; unfold Dat.before; rw [if_pos (fetch0_2 t0_0)]; rfl
  have hew : g3 = ewIn m ρ c := by rw [hg3]; unfold Dat.before; rw [if_pos (fetch0_3 t0_0)]; rfl
  have hsw : g4 = swIn m ρ c := by rw [hg4]; unfold Dat.before; rw [if_pos (fetch0_4 t0_0)]; rfl
  subst hx hrw hix hew hsw
  unfold Dat.owesAt Pipeline.owesWithin
  icases Ho with ⟨%W, %hW, HO⟩
  rw [show (dats m ρ 0 c).owed t0_0.castSucc = OB c 0 from rfl]
  ihave HO := (show owes (c : Thread nD τ) (OB c 0) W ⊢ (owesE c (OB c 0) : sProp 𝕄) from by unfold owesE; iintro H; iexists W; iexact H) $$ HO
  ihave Hs := ((send_split c f3).trans (Entails.of_eq (bigSep_fin8 _))) $$ Hsb
  ihave Hr := ((recv_split c f4).trans (Entails.of_eq (bigSep_fin8 _))) $$ Hrb
  icases Hs with ⟨Hsl, Hs0, Hs1, Hs2, Hs3, Hs4, Hs5, Hs6⟩
  icases Hr with ⟨Hrl, Hr0, Hr1, Hr2, Hr3, Hr4, Hr5, Hr6⟩
  -- the seven signals
  iapply (signal_step m ρ K c 0 6 rfl 0 1 rfl rfl _ (dev1_eq c) ((1#32 : BitVec 32).toInt) (by decide)) $$ HR HO HtB0 Hr6; iintro HO
  iapply (signal_step m ρ K c 1 5 rfl 1 2 rfl rfl _ (dev2_eq c) ((1#32 : BitVec 32).toInt) (by decide)) $$ HR HO HtB1 Hr5; iintro HO
  iapply (signal_step m ρ K c 2 4 rfl 2 3 rfl rfl _ (dev3_eq c) ((1#32 : BitVec 32).toInt) (by decide)) $$ HR HO HtB2 Hr4; iintro HO
  iapply (signal_step m ρ K c 3 3 rfl 3 4 rfl rfl _ (dev4_eq c) ((1#32 : BitVec 32).toInt) (by decide)) $$ HR HO HtB3 Hr3; iintro HO
  iapply (signal_step m ρ K c 4 2 rfl 4 5 rfl rfl _ (dev5_eq c) ((1#32 : BitVec 32).toInt) (by decide)) $$ HR HO HtB4 Hr2; iintro HO
  iapply (signal_step m ρ K c 5 1 rfl 5 6 rfl rfl _ (dev6_eq c) ((1#32 : BitVec 32).toInt) (by decide)) $$ HR HO HtB5 Hr1; iintro HO
  iapply (signal_step m ρ K c 6 0 rfl 6 7 rfl rfl _ (dev7_eq c) ((1#32 : BitVec 32).toInt) (by decide)) $$ HR HO HtB6 Hr0; iintro HO
  rw [show OB c 7 = OR c 0 from OB_end c]
  -- the operands read; the tokens and the weights written
  iapply (wp_load 𝒱₀ (c : Thread nD τ) none Set.univ (m := xM) (Finset.subset_univ _)) $$ Hx; iintro Hx
  rw [rd_x]
  iapply (wp_load 𝒱₀ (c : Thread nD τ) none Set.univ (m := rwM) (Finset.subset_univ _)) $$ Hrw; iintro Hrw
  rw [rd_rw]
  iapply (wp_load 𝒱₀ (c : Thread nD τ) none Set.univ (m := ixM) (Finset.subset_univ _)) $$ Hix; iintro Hix
  rw [rd_ix]
  iapply (wp_load 𝒱₀ (c : Thread nD τ) none Set.univ (m := coM) (Finset.subset_univ _)) $$ Hco; iintro Hco
  iapply (wp_store 𝒱₀ (c : Thread nD τ) none Set.univ (m := coM) (r := Rect.unit (s := S512x4) ![0, 0] S512x4.size inb_S512x4_S512x4_0_0) (Mk := Finset.univ) (Finset.subset_univ _)) $$ Hco; iintro Hco
  rw [wr_co]
  iapply (wp_load 𝒱₀ (c : Thread nD τ) none Set.univ (m := xbM) (Finset.subset_univ _)) $$ Hxb; iintro Hxb
  iapply (wp_store 𝒱₀ (c : Thread nD τ) none Set.univ (m := xbM) (r := Rect.unit (s := S512x256) ![0, 0] S512x256.size inb_S512x256_S512x256_0_0) (Mk := Finset.univ) (Finset.subset_univ _)) $$ Hxb; iintro Hxb
  rw [wr_xb]
  -- the four experts' matrices side by side
  iapply (wp_load 𝒱₀ (c : Thread nD τ) none Set.univ (m := ewM) (Finset.subset_univ _)) $$ Hew; iintro Hew
  iapply (wp_load 𝒱₀ (c : Thread nD τ) none Set.univ (m := wcM) (Finset.subset_univ _)) $$ Hwc; iintro Hwc
  iapply (wp_store 𝒱₀ (c : Thread nD τ) none Set.univ (m := wcM) (r := wcR0) (Mk := Finset.univ) (Finset.subset_univ _)) $$ Hwc; iintro Hwc
  iapply (wp_load 𝒱₀ (c : Thread nD τ) none Set.univ (m := ewM) (Finset.subset_univ _)) $$ Hew; iintro Hew
  iapply (wp_load 𝒱₀ (c : Thread nD τ) none Set.univ (m := wcM) (Finset.subset_univ _)) $$ Hwc; iintro Hwc
  iapply (wp_store 𝒱₀ (c : Thread nD τ) none Set.univ (m := wcM) (r := wcR1) (Mk := Finset.univ) (Finset.subset_univ _)) $$ Hwc; iintro Hwc
  iapply (wp_load 𝒱₀ (c : Thread nD τ) none Set.univ (m := ewM) (Finset.subset_univ _)) $$ Hew; iintro Hew
  iapply (wp_load 𝒱₀ (c : Thread nD τ) none Set.univ (m := wcM) (Finset.subset_univ _)) $$ Hwc; iintro Hwc
  iapply (wp_store 𝒱₀ (c : Thread nD τ) none Set.univ (m := wcM) (r := wcR2) (Mk := Finset.univ) (Finset.subset_univ _)) $$ Hwc; iintro Hwc
  iapply (wp_load 𝒱₀ (c : Thread nD τ) none Set.univ (m := ewM) (Finset.subset_univ _)) $$ Hew; iintro Hew
  iapply (wp_load 𝒱₀ (c : Thread nD τ) none Set.univ (m := wcM) (Finset.subset_univ _)) $$ Hwc; iintro Hwc
  iapply (wp_store 𝒱₀ (c : Thread nD τ) none Set.univ (m := wcM) (r := wcR3) (Mk := Finset.univ) (Finset.subset_univ _)) $$ Hwc; iintro Hwc
  ihave Hwc := (show (((c : Thread nD τ).loc cc0_scratch1) ↦{fullShare} wcOver m ρ c f1) ⊢ (((c : Thread nD τ).loc cc0_scratch1) ↦{fullShare} wcC m ρ c : sProp 𝕄)
    from Entails.of_eq (by rw [wcOver_eq])) $$ [Hwc]
  · unfold wcOver; iexact Hwc
  ihave Hh := (show iprop((((c : Thread nD τ).loc cc0_scratch0) ↦{fullShare} xbC m ρ c) ∗ (((c : Thread nD τ).loc cc0_scratch1) ↦{fullShare} wcC m ρ c)
      ∗ ((c : Thread nD τ).loc cc0_scratch2) ↦{fullShare} coC m ρ c) ⊢ held m ρ c from Entails.refl _) $$ [Hxb Hwc Hco]
  · isplitl [Hxb]; · iexact Hxb
    isplitl [Hwc]; · iexact Hwc
    iexact Hco
  -- the barrier
  iapply (barrier_step m ρ K c ((7#32 : BitVec 32).toInt) (by decide)) $$ HR Hlev HcB HO HatB
  iintro ⟨HO, HzB, Hp⟩
  ihave Hp := (Entails.of_eq (bigSep_fin7 _)) $$ Hp
  icases Hp with ⟨Hp0, Hp1, Hp2, Hp3, Hp4, Hp5, Hp6⟩
  -- the seven blocks
  iapply (send_step m ρ K c 0 0 1 rfl rfl _ (dev8_eq c) 1 rfl 1#32 rfl _ rfl) $$ HR Hh Hs0 Hp0 HO HtS0 HtV0; iintro ⟨Hh, HcS0, HO⟩
  iapply (send_step m ρ K c 1 1 2 rfl rfl _ (dev9_eq c) 2 rfl 2#32 rfl _ rfl) $$ HR Hh Hs1 Hp1 HO HtS1 HtV1; iintro ⟨Hh, HcS1, HO⟩
  iapply (send_step m ρ K c 2 2 3 rfl rfl _ (dev10_eq c) 3 rfl 3#32 rfl _ rfl) $$ HR Hh Hs2 Hp2 HO HtS2 HtV2; iintro ⟨Hh, HcS2, HO⟩
  iapply (send_step m ρ K c 3 3 4 rfl rfl _ (dev11_eq c) 4 rfl 4#32 rfl _ rfl) $$ HR Hh Hs3 Hp3 HO HtS3 HtV3; iintro ⟨Hh, HcS3, HO⟩
  iapply (send_step m ρ K c 4 4 5 rfl rfl _ (dev12_eq c) 5 rfl 5#32 rfl _ rfl) $$ HR Hh Hs4 Hp4 HO HtS4 HtV4; iintro ⟨Hh, HcS4, HO⟩
  iapply (send_step m ρ K c 5 5 6 rfl rfl _ (dev13_eq c) 6 rfl 6#32 rfl _ rfl) $$ HR Hh Hs5 Hp5 HO HtS5 HtV5; iintro ⟨Hh, HcS5, HO⟩
  iapply (send_step m ρ K c 6 6 7 rfl rfl _ (dev14_eq c) 7 rfl 7#32 rfl _ rfl) $$ HR Hh Hs6 Hp6 HO HtS6 HtV6; iintro ⟨Hh, HcS6, HO⟩
  rw [show OR c 7 = 0 from OR_end c]
  -- its own part
  unfold held
  icases Hh with ⟨Hxb, Hwc, Hco⟩
  iapply (wp_load 𝒱₀ (c : Thread nD τ) none Set.univ (m := xbM) (Finset.subset_univ _)) $$ Hxb; iintro Hxb
  iapply (wp_load 𝒱₀ (c : Thread nD τ) none Set.univ (m := wcM) (Finset.subset_univ _)) $$ Hwc; iintro Hwc
  rw [rd_wc]
  iapply (wp_load 𝒱₀ (c : Thread nD τ) none Set.univ (m := coM) (Finset.subset_univ _)) $$ Hco; iintro Hco
  iapply (wp_load 𝒱₀ (c : Thread nD τ) none Set.univ (m := xbM) (Finset.subset_univ _)) $$ Hxb; iintro Hxb
  iapply (wp_load 𝒱₀ (c : Thread nD τ) none Set.univ (m := swM) (Finset.subset_univ _)) $$ Hsw; iintro Hsw
  rw [rd_sw]
  -- the seven arrivals
  iapply (recv_step m ρ K c 0 1 rfl) $$ HR HcV0 HO HaV0; iintro ⟨HO, HzV0, Hr0⟩
  iapply (recv_step m ρ K c 1 2 rfl) $$ HR HcV1 HO HaV1; iintro ⟨HO, HzV1, Hr1⟩
  iapply (recv_step m ρ K c 2 3 rfl) $$ HR HcV2 HO HaV2; iintro ⟨HO, HzV2, Hr2⟩
  iapply (recv_step m ρ K c 3 4 rfl) $$ HR HcV3 HO HaV3; iintro ⟨HO, HzV3, Hr3⟩
  iapply (recv_step m ρ K c 4 5 rfl) $$ HR HcV4 HO HaV4; iintro ⟨HO, HzV4, Hr4⟩
  iapply (recv_step m ρ K c 5 6 rfl) $$ HR HcV5 HO HaV5; iintro ⟨HO, HzV5, Hr5⟩
  iapply (recv_step m ρ K c 6 7 rfl) $$ HR HcV6 HO HaV6; iintro ⟨HO, HzV6, Hr6⟩
  -- the result
  iapply (wp_load 𝒱₀ (c : Thread nD τ) none Set.univ (m := oM) (Finset.subset_univ _)) $$ Hout; iintro Hout
  iapply (wp_store 𝒱₀ (c : Thread nD τ) none Set.univ (m := oM) (r := Rect.unit (s := S64x512) ![0, 0] S64x512.size inb_S64x512_S64x512_0_0) (Mk := Finset.univ) (Finset.subset_univ _)) $$ Hout; iintro Hout
  rw [wr_o]
  -- the seven departures
  iapply (sent_step m ρ K c 0 1 rfl) $$ HR HcS0 HO HaS0; iintro ⟨HO, HzS0, Hs0⟩
  iapply (sent_step m ρ K c 1 2 rfl) $$ HR HcS1 HO HaS1; iintro ⟨HO, HzS1, Hs1⟩
  iapply (sent_step m ρ K c 2 3 rfl) $$ HR HcS2 HO HaS2; iintro ⟨HO, HzS2, Hs2⟩
  iapply (sent_step m ρ K c 3 4 rfl) $$ HR HcS3 HO HaS3; iintro ⟨HO, HzS3, Hs3⟩
  iapply (sent_step m ρ K c 4 5 rfl) $$ HR HcS4 HO HaS4; iintro ⟨HO, HzS4, Hs4⟩
  iapply (sent_step m ρ K c 5 6 rfl) $$ HR HcS5 HO HaS5; iintro ⟨HO, HzS5, Hs5⟩
  iapply (sent_step m ρ K c 6 7 rfl) $$ HR HcS6 HO HaS6; iintro ⟨HO, HzS6, Hs6⟩
  rw [wp_ret]; imodintro
  iapply Hk
  unfold bodyPost Φ₁ scratch zeros Dat.owesAt Pipeline.owesWithin
  rw [show (dats m ρ 0 c).owed t0_0.succ = 0 from rfl]
  isplitr [HO Hx Hrw Hix Hew Hsw Hout]
  · isplitr [HzB Hidle HzV0 HzS0 HzV1 HzS1 HzV2 HzS2 HzV3 HzS3 HzV4 HzS4 HzV5 HzS5 HzV6 HzS6]
    · isplitl [Hxb]; · iexists _; iexact Hxb
      isplitl [Hwc]; · iexists _; iexact Hwc
      isplitl [Hco]; · iexists _; iexact Hco
      isplitl [Hsl Hs0 Hs1 Hs2 Hs3 Hs4 Hs5 Hs6]
      · iapply (send_join m c); rw [bigSep_fin8]
        isplitl [Hsl]; · iexact Hsl
        isplitl [Hs0]; · iexact Hs0
        isplitl [Hs1]; · iexact Hs1
        isplitl [Hs2]; · iexact Hs2
        isplitl [Hs3]; · iexact Hs3
        isplitl [Hs4]; · iexact Hs4
        isplitl [Hs5]; · iexact Hs5
        iexact Hs6
      · iapply (recv_join m c); rw [bigSep_fin8]
        isplitl [Hrl]; · iexact Hrl
        isplitl [Hr0]; · iexact Hr0
        isplitl [Hr1]; · iexact Hr1
        isplitl [Hr2]; · iexact Hr2
        isplitl [Hr3]; · iexact Hr3
        isplitl [Hr4]; · iexact Hr4
        isplitl [Hr5]; · iexact Hr5
        iexact Hr6
    · isplitl [HzB]; · iexact HzB
      isplitl [Hidle]; · iexact Hidle
      rw [bigSep_fin7]
      isplitl [HzS0 HzV0]; · isplitl [HzS0] <;> iassumption
      isplitl [HzS1 HzV1]; · isplitl [HzS1] <;> iassumption
      isplitl [HzS2 HzV2]; · isplitl [HzS2] <;> iassumption
      isplitl [HzS3 HzV3]; · isplitl [HzS3] <;> iassumption
      isplitl [HzS4 HzV4]; · isplitl [HzS4] <;> iassumption
      isplitl [HzS5 HzV5]; · isplitl [HzS5] <;> iassumption
      isplitl [HzS6] <;> iassumption
  isplitl [HO]
  · unfold owesE
    icases HO with ⟨%W', HO⟩
    iexists W'
    isplitr; · ipureintro; exact fun _ _ => Or.inl trivial
    iexact HO
  isplitl [Hx]
  · iexists _; isplitr; · (ipureintro; rfl)
    iexact Hx
  isplitl [Hrw]
  · iexists _; isplitr; · (ipureintro; rfl)
    iexact Hrw
  isplitl [Hix]
  · iexists _; isplitr; · (ipureintro; rfl)
    iexact Hix
  isplitl [Hew]
  · iexists _; isplitr; · (ipureintro; rfl)
    iexact Hew
  isplitl [Hsw]
  · iexists _; isplitr; · (ipureintro; rfl)
    iexact Hsw
  iexists _; isplitr; · (ipureintro; rfl)
  iexact Hout

def bodyPre' (c : Dev nD) : sProp 𝕄 := iprop(Φ₀ m ρ c ∗ (dats m ρ 0 c).owesAt () t0_0.castSucc ∗ before m ρ c)

/-- The pipeline's obligation for the body on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) cc0_scratch5 cc0_scratch6) (fun _ => bodyPost m ρ c)
  unfold bodyPre' Φ₀ start
  iintro ⟨⟨⟨⟨%K, Hg⟩, Hrest⟩, Hscr⟩, Ho, Hb⟩
  iapply (sound_body m ρ K c fun _ => bodyPost m ρ c)
  unfold bodyPre
  isplitr []
  · isplitl [Hg Hrest]
    · isplitl [Hg]; · iexact Hg
      iexact Hrest
    isplitl [Hscr]; · iexact Hscr
    isplitl [Ho] <;> iassumption
  · iintro H; iexact H

end Body

end Cert.KernelIdealProof

end
-- ==== Proof.Launch.lean ====
/-
# The launch

What the launch deals every device, the exchange's cells set up for all devices at once, the tokens handed to the
devices that pay them, the credits, and the run of the whole program.
-/
module

public import proofs.«01_k».proof.Proof.Body
public import Idealize.ShloMosaic.Lib.Pipeline.CollectiveSegs

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem ownSemFacts : Pipeline.OwnSemFacts cfg0.spec osem := by decide +kernel

theorem share_eq (c : Dev nD) (w : Fin cfg0.W) : (dats m ρ 0 c).share w = fullShare := by unfold Dat.share; split <;> rfl

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- Every cell of the exchange. -/
def exCells : Finset (GSem nD τ sig) := Finset.univ.map ⟨kcell, kcell_injective⟩

/-- A device's duty tokens as they are minted: its barrier's seven, one for each send cell, one for each receive cell. -/
abbrev TK : Type := Fin 7 ⊕ (Fin 7 ⊕ Fin 7)
abbrev tokOf (cj : Dev nD × TK) : GSem nD τ sig × ℕ × Fin 7 := match cj.2 with
  | .inl r => (barCell cj.1, 0, r)
  | .inr (.inl r) => (sendCell cj.1 r, 0, 0)
  | .inr (.inr r) => (recvCell cj.1 r, 0, 0)
/-- Which of the device's duties a token is. -/
def tokRole (x : GSem nD τ sig × ℕ × Fin 7) : Option TK := match role x.1.2 with
  | some (.inl _) => some (.inl x.2.2)
  | some (.inr k) => some (.inr k)
  | none => none
theorem tokRole_tokOf (cj : Dev nD × TK) : tokRole (tokOf cj) = some cj.2 := by
  obtain ⟨c, r | r | r⟩ := cj
  · dsimp only [tokRole, tokOf]; rw [role_bar]
  · dsimp only [tokRole, tokOf]; rw [role_send]
  · dsimp only [tokRole, tokOf]; rw [role_recv]
theorem tokOf_dev (cj : Dev nD × TK) : (tokOf cj).1.1.1 = cj.1 := by
  obtain ⟨c, r | r | r⟩ := cj <;> rfl
theorem tokOf_injective : Function.Injective (tokOf : Dev nD × TK → GSem nD τ sig × ℕ × Fin 7) := fun a b h =>
  Prod.ext ((tokOf_dev a).symm.trans ((congrArg (fun x : GSem nD τ sig × ℕ × Fin 7 => x.1.1.1) h).trans (tokOf_dev b)))
    (Option.some.inj ((tokRole_tokOf a).symm.trans ((congrArg tokRole h).trans (tokRole_tokOf b))))
def exToks : Finset (GSem nD τ sig × ℕ × Fin 7) := Finset.univ.map ⟨tokOf, tokOf_injective⟩

/-- The launch element: the pipeline's rounds and the exchange's. -/
def u₀ : UU :=
  (initOf (Pipeline.cells cfgs cellOf_inj) (Pipeline.launchToks cfgs cellOf_inj), initOf exCells exToks)

omit [FloatOps F] in
/-- A conjunct for each of a device's cells: the barrier's, the send cells', the receive cells'. -/
theorem bigSep_CK (Φ : CK → sProp 𝕄) :
    bigSep Finset.univ Φ = iprop(Φ (.inl ()) ∗ (bigSep Finset.univ fun r : Fin 7 => Φ (.inr (.inl r))) ∗ bigSep Finset.univ fun r : Fin 7 => Φ (.inr (.inr r))) := by
  rw [bigSep_univ_sum, bigSep_univ_sum, show (Finset.univ : Finset Unit) = {()} from rfl, bigSep_singleton]; rfl

/-- The duty tokens of device `c`'s own cells. -/
def toks (c : Dev nD) : sProp 𝕄 :=
  iprop((bigSep Finset.univ fun r : Fin 7 => dutyTok ER (barCell c) 0 r) ∗ (bigSep Finset.univ fun r : Fin 7 => dutyTok ER (sendCell c r) 0 0)
    ∗ bigSep Finset.univ fun r : Fin 7 => dutyTok ER (recvCell c r) 0 0)

/-- What the launch element deals device `c`. -/
def G (c : Dev nD) : sProp 𝕄 :=
  iprop((bigSep Finset.univ fun k : CK => roundState ER (exRd m ρ) (kcell (c, k)) 0)
    ∗ (bigSep Finset.univ fun k : CK => iprop(atPos ER (kcell (c, k)) 0 ∅ 0 ∗ reached ER (kcell (c, k)) 0)) ∗ toks (F := F) c)

/-- What the global step makes of it. -/
def G' (c : Dev nD) : sProp 𝕄 := iprop((∃ K, ghost m ρ K c) ∗ idle (F := F) c)

theorem fund_ex : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : CK => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks (F := F) c := by
    unfold exToks; rw [bigSep_map, bigSep_univ_prod]
    exact bigSep_congr fun c _ => by unfold toks; rw [bigSep_univ_sum, bigSep_univ_sum]; rfl
  iintro HX
  imod (Rounds.fund ER (exRd m ρ) exCells exToks) $$ HX with ⟨Hst, Hr, Hat, Htok⟩
  imodintro
  ihave Hst' := (Entails.of_eq (hX fun g => roundState ER (exRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at launch -/

theorem sendS_osem : ∀ r : Fin 7, SemLoc.dma (sendS r) = osem ⟨r.val + 1, by omega⟩ := by decide +kernel
theorem recvS_osem : ∀ r : Fin 7, SemLoc.dma (recvS r) = osem ⟨r.val + 9, by omega⟩ := by decide +kernel

omit [FloatOps F] in
theorem sendVals_eq (c : Dev nD) : (bigSep Finset.univ fun r : Fin 7 => (semVal (sendCell c r) 0 : sProp 𝕄))
    = bigSep Finset.univ fun r : Fin 7 => semVal ((c : Thread nD τ), osem ⟨r.val + 1, by omega⟩) 0 :=
  bigSep_congr fun r _ => by unfold sendCell; rw [sendS_osem]
omit [FloatOps F] in
theorem recvVals_eq (c : Dev nD) : (bigSep Finset.univ fun r : Fin 7 => (semVal (recvCell c r) 0 : sProp 𝕄))
    = bigSep Finset.univ fun r : Fin 7 => semVal ((c : Thread nD τ), osem ⟨r.val + 9, by omega⟩) 0 :=
  bigSep_congr fun r _ => by unfold recvCell; rw [recvS_osem]

omit [FloatOps F] in
/-- The kernel's own semaphores: the unused two, the send cells and the receive cells. -/
theorem ownSems0_open (c : Dev nD) : (Pipeline.ownSems0 (Ix := Unit) (Name := ℕ) (U := UU) (Lvl := ℕ) (Val := Elt F) (τ := τ) osem c : sProp 𝕄)
    ⊢ iprop(idle c ∗ (bigSep Finset.univ fun r : Fin 7 => semVal (sendCell c r) 0) ∗ bigSep Finset.univ fun r : Fin 7 => semVal (recvCell c r) 0) := by
  rw [Pipeline.ownSems0_eq_of_list c osem [0, 8, 1, 2, 3, 4, 5, 6, 7, 9, 10, 11, 12, 13, 14, 15] (by decide) (by decide), sendVals_eq, recvVals_eq, bigSep_fin7, bigSep_fin7]
  unfold idle
  show iprop(_ ∗ _ ∗ _ ∗ _ ∗ _ ∗ _ ∗ _ ∗ _ ∗ _ ∗ _ ∗ _ ∗ _ ∗ _ ∗ _ ∗ _ ∗ _) ⊢ _
  iintro ⟨Ha, Hb, H0, H1, H2, H3, H4, H5, H6, Hr⟩
  isplitl [Ha Hb]
  · isplitl [Ha]; · iexact Ha
    iexact Hb
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iexact Hr
omit [FloatOps F] in
/-- The same the other way. -/
theorem ownSems0_close (c : Dev nD) :
    iprop(idle c ∗ (bigSep Finset.univ fun r : Fin 7 => semVal (sendCell c r) 0) ∗ bigSep Finset.univ fun r : Fin 7 => semVal (recvCell c r) 0)
      ⊢ (Pipeline.ownSems0 (Ix := Unit) (Name := ℕ) (U := UU) (Lvl := ℕ) (Val := Elt F) (τ := τ) osem c : sProp 𝕄) := by
  rw [Pipeline.ownSems0_eq_of_list c osem [0, 8, 1, 2, 3, 4, 5, 6, 7, 9, 10, 11, 12, 13, 14, 15] (by decide) (by decide), sendVals_eq, recvVals_eq, bigSep_fin7, bigSep_fin7]
  unfold idle
  show _ ⊢ iprop(_ ∗ _ ∗ _ ∗ _ ∗ _ ∗ _ ∗ _ ∗ _ ∗ _ ∗ _ ∗ _ ∗ _ ∗ _ ∗ _ ∗ _ ∗ _)
  iintro ⟨⟨Ha, Hb⟩, ⟨H0, H1, H2, H3, H4, H5, H6⟩, Hr⟩
  isplitl [Ha]; · iexact Ha
  isplitl [Hb]; · iexact Hb
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Hr
omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
/-- All of a device's semaphores at zero: its cells', and the unused two. -/
theorem sems0 (c : Dev nD) :
    iprop(Pipeline.ownSems0 (Ix := Unit) (Name := ℕ) (U := UU) (Lvl := ℕ) (Val := Elt F) (τ := τ) osem c ∗ unscopedSems0 c)
      ⊢ (iprop((bigSep Finset.univ fun k : CK => semVal (kcell (c, k)) 0) ∗ idle c) : sProp 𝕄) := by
  rw [unscopedSems0_eq, bigSep_CK]
  iintro ⟨HO, HB⟩
  ihave H := (ownSems0_open (F := F) c) $$ HO
  icases H with ⟨Hi, Hs, Hv⟩
  isplitr [Hi]
  · isplitl [HB]; · iexact HB
    isplitl [Hs] <;> iassumption
  iexact Hi

/-- A device's cells set up: each one's invariant, its place and mark; its tokens; the unused two left over. -/
def dealt (c : Dev nD) : sProp 𝕄 :=
  iprop((bigSep Finset.univ fun k : CK => iprop(∃ κ : ℕ, cellInv ER (exRd m ρ) κ (kcell (c, k))))
    ∗ (bigSep Finset.univ fun k : CK => iprop(atPos ER (kcell (c, k)) 0 ∅ 0 ∗ reached ER (kcell (c, k)) 0)) ∗ toks (F := F) c ∗ idle (F := F) c)

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> dealt m ρ c := by
  unfold G dealt
  iintro ⟨Hos, Hus, Hst, Hat, Htok⟩
  ihave Hv := (sems0 (F := F) c) $$ [Hos Hus]
  · isplitl [Hos] <;> iassumption
  icases Hv with ⟨Hv, Hi⟩
  imod (show iprop((bigSep Finset.univ fun k : CK => semVal (kcell (c, k)) 0) ∗ bigSep Finset.univ fun k : CK => roundState ER (exRd m ρ) (kcell (c, k)) 0)
      ⊢ (|={Set.univ}=> bigSep Finset.univ fun k : CK => iprop(∃ κ : ℕ, cellInv ER (exRd m ρ) κ (kcell (c, k))) : sProp 𝕄) from by
        rw [← bigSep_sep']
        exact (bigSep_mono fun k _ => (Rounds.body_intro ER (exRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hi

/-! ## The tokens handed to their payers -/

/-- The tokens of the duties device `c` pays. -/
def payToks (c : Dev nD) : sProp 𝕄 :=
  iprop((bigSep Finset.univ fun r : Fin 7 => dutyTok ER (barCell (up r c)) 0 r) ∗ (bigSep Finset.univ fun r : Fin 7 => dutyTok ER (sendCell c r) 0 0)
    ∗ bigSep Finset.univ fun r : Fin 7 => dutyTok ER (recvCell (up r c) r) 0 0)
/-- What stays with device `c`: its places, the tokens of the duties it pays, the unused semaphores. -/
def linear (c : Dev nD) : sProp 𝕄 :=
  iprop((bigSep Finset.univ fun k : CK => atPos ER (kcell (c, k)) 0 ∅ 0) ∗ payToks (F := F) c ∗ idle (F := F) c)

theorem ghost_intro (K : Dev nD × CK → ℕ) (c : Dev nD) : iprop(records m ρ K ∗ linear (F := F) c) ⊢ G' m ρ c := by
  unfold linear payToks G' ghost share
  rw [bigSep_CK, bigSep_sep', bigSep_sep', bigSep_sep', bigSep_sep']
  iintro ⟨HR, ⟨HaB, HaS, HaV⟩, ⟨HtB, HtS, HtV⟩, Hi⟩
  isplitr [Hi]
  · iexists K
    isplitl [HR]; · iexact HR
    isplitl [HaB]; · iexact HaB
    isplitl [HaS]; · iexact HaS
    isplitl [HaV]; · iexact HaV
    isplitl [HtB]; · iexact HtB
    isplitl [HtS]; · iexact HtS
    iexact HtV
  iexact Hi

omit [FloatOps F] in
/-- One conjunct per device and peer, moved from the device to its peer. -/
theorem around (Φ : Dev nD → Fin 7 → sProp 𝕄) :
    (bigSep Finset.univ fun c : Dev nD => bigSep Finset.univ fun r : Fin 7 => Φ c r) = bigSep Finset.univ fun c : Dev nD => bigSep Finset.univ fun r : Fin 7 => Φ (up r c) r := by
  rw [BI.bigSep_univ_comm, BI.bigSep_univ_comm (fun (c : Dev nD) (r : Fin 7) => Φ (up r c) r)]
  exact bigSep_congr fun r _ => bigSep_univ_equiv (shift r) fun c => Φ c r

omit [FloatOps F] in
theorem toks_around : (bigSep Finset.univ fun c : Dev nD => (toks (F := F) c : sProp 𝕄)) = bigSep Finset.univ fun c : Dev nD => payToks (F := F) c := by
  unfold toks payToks
  rw [bigSep_sep', bigSep_sep', bigSep_sep', bigSep_sep', around (fun c r => dutyTok ER (barCell c) 0 r), around (fun c r => dutyTok ER (recvCell c r) 0 0)]

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : (bigSep Finset.univ fun c : Dev nD => (dealt m ρ c : sProp 𝕄)) ⊢ bigSep Finset.univ (G' m ρ) := by
  unfold dealt
  rw [bigSep_sep', bigSep_sep', bigSep_sep', ← bigSep_univ_prod (fun ck : Dev nD × CK => iprop(∃ κ : ℕ, cellInv ER (exRd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄)), toks_around]
  iintro ⟨HI, ⟨Hat, #HR⟩, Htok, Hi⟩
  ihave HK := (BI.bigSep_exists_pi Finset.univ (fun (ck : Dev nD × CK) (κ : ℕ) => (cellInv ER (exRd m ρ) κ (kcell ck) : sProp 𝕄))) $$ HI
  icases HK with ⟨%K, #HI⟩
  iapply (bigSep_with_persistent (R := records m ρ K) fun c _ => ghost_intro m ρ K c)
  isplitr
  · unfold records; isplitl; · iexact HI
    iexact HR
  · unfold linear
    rw [bigSep_sep', bigSep_sep']
    isplitl [Hat]; · iexact Hat
    isplitl [Htok]; · iexact Htok
    iexact Hi

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
/-- Two credits of one cell are one. -/
theorem cred_merge (g : GSem nD τ sig) (a b : ℕ) : iprop(cred (tallyAt g () a) ∗ cred (tallyAt g () b)) ⊢ (cred (tallyAt g () (a + b)) : sProp 𝕄) := by
  rw [← tallyAt_add]; exact (cred_add _ _).2

omit [FloatOps F] in
theorem creds (c : Dev nD) : (Pipeline.launchCred (fun d => OB d 0) c : sProp 𝕄) ⊢ credits c := by
  have e : (fun d => OB d 0 : Dev nD → CellTallies nD τ sig Unit)
      = fun d => (∑ r : Fin 7, tallyAt (recvCell (up r d) r) () N) + ∑ r : Fin 7, tallyAt (barCell (up r d)) () 1 := by
    funext d; unfold OB OR; rw [Finset.filter_true_of_mem fun r _ => Nat.zero_le _]
  rw [e, Pipeline.launchCred_add, Pipeline.launchCred_sum Finset.univ (fun (r : Fin 7) (d : Dev nD) => tallyAt (recvCell (up r d) r) () N),
    Pipeline.launchCred_sum Finset.univ (fun (r : Fin 7) (d : Dev nD) => tallyAt (barCell (up r d)) () 1)]
  unfold credits
  iintro ⟨HV, HB⟩
  ihave HV := (show (bigSep Finset.univ fun r : Fin 7 => (Pipeline.launchCred (fun d : Dev nD => tallyAt (recvCell (up r d) r) () N) c : sProp 𝕄))
      ⊢ bigSep Finset.univ fun r : Fin 7 => cred (tallyAt (recvCell c r) () N) from
        bigSep_mono fun r _ => Pipeline.launchCred_tallyAt (.dma (recvS r)) (up r) (dn r) (up_dn r) (dn_up r) () N c) $$ HV
  ihave HB := ((show (bigSep Finset.univ fun r : Fin 7 => (Pipeline.launchCred (fun d : Dev nD => tallyAt (barCell (up r d)) () 1) c : sProp 𝕄))
      ⊢ bigSep Finset.univ fun r : Fin 7 => cred (tallyAt (barCell c) () 1) from
        bigSep_mono fun r _ => Pipeline.launchCred_tallyAt (.reg barS) (up r) (dn r) (up_dn r) (dn_up r) () 1 c).trans (Entails.of_eq (bigSep_fin7 _))) $$ HB
  icases HB with ⟨H0, H1, H2, H3, H4, H5, H6⟩
  isplitr [HV]
  · ihave H := (cred_merge (F := F) (barCell c) 1 1) $$ [H0 H1]
    · isplitl [H0] <;> iassumption
    ihave H := (cred_merge (F := F) (barCell c) 2 1) $$ [H H2]
    · isplitl [H] <;> iassumption
    ihave H := (cred_merge (F := F) (barCell c) 3 1) $$ [H H3]
    · isplitl [H] <;> iassumption
    ihave H := (cred_merge (F := F) (barCell c) 4 1) $$ [H H4]
    · isplitl [H] <;> iassumption
    ihave H := (cred_merge (F := F) (barCell c) 5 1) $$ [H H5]
    · isplitl [H] <;> iassumption
    ihave H := (cred_merge (F := F) (barCell c) 6 1) $$ [H H6]
    · isplitl [H] <;> iassumption
    iexact H
  iexact HV

/-! ## The side conditions of the launch -/

theorem start_intro (c : Dev nD) :
    iprop(Pipeline.unscopedRestP Pipeline.Prefetch.none cfg0.spec c (fun b => m ((c : Thread nD τ).loc b)) ∗ levAts L lv
        ∗ Pipeline.launchCred (fun d => OB d 0) c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  icases HG with ⟨HG, Hi⟩
  isplitl
  · isplitl [HG]; · iexact HG
    isplitl [Hc]; · iexact Hc
    isplitl [Hlev]; · iexact Hlev
    iexact Hi
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ scratch zeros
  rw [bigSep_sep']
  iintro ⟨Hr, HzB, Hi, HzS, HzV⟩
  isplitl [HzB]; · iexact HzB
  isplitr [Hr]
  · iapply (ownSems0_close (F := F) c)
    isplitl [Hi]; · iexact Hi
    isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- On eight devices, for any float values and from any memory with zero counters: every weakly fair execution of the
    program terminates, and every final state has each device's arrays at the computed contents and every counter zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun c => OB c 0) (howed₀ := fun _ => rfl) (howedN := fun _ => rfl)
    (L := L) (lv := lv) (hL := L_off) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdealProof

end
-- ==== Proof.Final.lean ====
/-
# The arrays at the end

Every device's argument arrays as they were and its result array at `outAt`.
-/
module

public import proofs.«01_k».proof.Proof.Launch
public import Idealize.ShloMosaic.Lib.Pipeline.ValueKit.Geometry

@[expose] public section

set_option maxRecDepth 16384

noncomputable section

namespace Cert.KernelIdealProof

open Cert.KernelIdeal Cert.KernelIdeal.Gen
open Idealize.ShloMosaic
open Idealize.ShloMosaic.TcCoe
open Idealize.SL.Sem

variable {F : FTy → Type} [FloatOps F]

variable (m : (ℓ : Loc nD τ sig) → Buf (Elt F) ℓ) (ρ : Dev nD → PrngReg)

/-- The result array ends at what the body leaves: the result window's one block is the whole array. -/
theorem finalA_out (c : Dev nD) : finalA m ρ c (5 : Fin 6) = outAt m ρ c :=
  (dats m ρ 0 c).arrAt_eq_of_after_last (5 : Fin 6) t0_0 (by decide +kernel) (outAt m ρ c) (fun _ => rfl)

/-- The activations read whole are the first argument array. -/
theorem xIn_eq (c : Dev nD) : xIn m ρ c = m ((c : Thread nD τ).loc main_arg0) := by
  unfold xIn; funext j; show m _ _ = _; congr 1; funext a; apply Fin.ext; blk_simp; exact (congrArg (· + _) (Nat.zero_mul _)).trans (Nat.zero_add _)
/-- The router's weights read whole are the second argument array. -/
theorem rwIn_eq (c : Dev nD) : rwIn m ρ c = m ((c : Thread nD τ).loc main_arg1) := by
  unfold rwIn; funext j; show m _ _ = _; congr 1; funext a; apply Fin.ext; blk_simp; exact (congrArg (· + _) (Nat.zero_mul _)).trans (Nat.zero_add _)
/-- The route indices read whole are the third argument array. -/
theorem ixIn_eq (c : Dev nD) : ixIn m ρ c = m ((c : Thread nD τ).loc main_arg2) := by
  unfold ixIn; funext j; show m _ _ = _; congr 1; funext a; apply Fin.ext; blk_simp; exact (congrArg (· + _) (Nat.zero_mul _)).trans (Nat.zero_add _)
/-- The device's experts read whole are the fourth argument array. -/
theorem ewIn_eq (c : Dev nD) : ewIn m ρ c = m ((c : Thread nD τ).loc main_arg3) := by
  unfold ewIn; funext j; show m _ _ = _; congr 1; funext a; apply Fin.ext; blk_simp; exact (congrArg (· + _) (Nat.zero_mul _)).trans (Nat.zero_add _)
/-- The shared expert read whole is the fifth argument array. -/
theorem swIn_eq (c : Dev nD) : swIn m ρ c = m ((c : Thread nD τ).loc main_arg4) := by
  unfold swIn; funext j; show m _ _ = _; congr 1; funext a; apply Fin.ext; blk_simp; exact (congrArg (· + _) (Nat.zero_mul _)).trans (Nat.zero_add _)

/-- The run: every device's result array holds `outAt`, its arguments are as they were, and every counter is zero. -/
theorem run_out : θ_run defs (onTc (τ := τ) (main (F := F))) ⟨m, fun _ => 0, ρ⟩ (fun r => (∀ c : Dev nD,
      r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) := by
  have arg : ∀ (c : Dev nD) (w : Fin cfg0.W), (cfg0.win w).isOut = false →
      finalA m ρ c w = m ((cfg0.win w).arr.view.loc (c : Thread nD τ)) :=
    fun c w hw => (dats m ρ 0 c).arrAt_in w hw _
  exact (θ_run defs _ _).mono (fun _ h => ⟨fun c => ⟨(h.1 c (5 : Fin 6)).trans (finalA_out m ρ c),
    (h.1 c (0 : Fin 6)).trans (arg c 0 rfl), (h.1 c (1 : Fin 6)).trans (arg c 1 rfl),
    (h.1 c (2 : Fin 6)).trans (arg c 2 rfl), (h.1 c (3 : Fin 6)).trans (arg c 3 rfl),
    (h.1 c (4 : Fin 6)).trans (arg c 4 rfl)⟩, h.2⟩) (run_main m ρ)

end Cert.KernelIdealProof

end
-- ==== Proof.Spec.lean ====
/-
# The layer on extended reals

The router's probabilities, an expert's product with a token, and the kernel's payloads read at an index in their terms.
-/
module

public import proofs.«01_k».proof.Proof.Gen.KernelIdeal.Skeleton
public import Idealize.ShloMosaic.Lib.Pointwise
public import Idealize.ShloMosaic.Lib.Claim

@[expose] public section

set_option maxRecDepth 16384

noncomputable section

namespace Cert.KernelIdealProof

open Cert.KernelIdeal Cert.KernelIdeal.Gen
open Idealize.ShloMosaic

/-- Matrices of extended reals. -/
abbrev Mat (a b : Nat) := (⟨2, ![a, b]⟩ : Shape).Idx → EReal

/-- Token `t`'s score for expert `j`. -/
def score (x : Mat 512 256) (r : Mat 256 32) (t : Fin 512) (j : Fin 32) : EReal := ∑ d : Fin 256, x (ix2 t d) * r (ix2 d j)

/-- Token `t`'s greatest score. -/
def smax (x : Mat 512 256) (r : Mat 256 32) (t : Fin 512) : EReal :=
  Finset.univ.fold max (Ideal.ofBits .f32 0xFF800000#32) (fun j => score x r t j)

/-- The numerator of token `t`'s probability of expert `j`. -/
def ex (x : Mat 512 256) (r : Mat 256 32) (t : Fin 512) (j : Fin 32) : EReal := Ideal.exp (score x r t j - smax x r t)

/-- Token `t`'s probability of expert `j`. -/
def prob (x : Mat 512 256) (r : Mat 256 32) (t : Fin 512) (j : Fin 32) : EReal :=
  Ideal.div (ex x r t j) (∑ i : Fin 32, ex x r t i)

/-- One where the word `w` is the number `e`, zero elsewhere. -/
def hit (w : BitVec 32) (e : Nat) : EReal := if w = BitVec.ofNat 32 e then 1 else 0

/-- A comparison's bit, widened and made a float, is one or zero. -/
theorem bit_float (a b : BitVec 32) :
    FloatOps.sitofp (F := Ideal) .f32 ((IntOp.cmpi .eq a b).setWidth 32) = if a = b then 1 else 0 := by
  by_cases h : a = b
  · subst h
    rw [if_pos rfl, IntOp.cmpi_eq_self]
    show ((((1#1).setWidth 32).toInt : ℝ) : EReal) = 1
    rw [show ((1#1).setWidth 32).toInt = 1 by decide]; simp
  · rw [if_neg h, show IntOp.cmpi .eq a b = 0#1 from congrArg BitVec.ofBool (beq_eq_false_iff_ne.2 h)]
    show ((((0#1).setWidth 32).toInt : ℝ) : EReal) = 0
    rw [show ((0#1).setWidth 32).toInt = 0 by decide]; simp

/-- The coefficient table at token `t` and the device's expert `k`. -/
theorem pay2_apply (v2 : BitVec 32) (x : FVec Ideal S512x256 .bf16) (r : Vec Ideal S256x32 .bf16) (ix : Vec Ideal S512x1 .i32)
    (t : Fin 512) (k : Fin 4) :
    k0_pay2 v2 x r ix (ix2 t k) = (∑ j : Fin 32, prob x r t j * hit (ix (ix2 t 0)) j)
      * (if ix (ix2 t 0) = v2 * 4#32 + BitVec.ofNat 32 k then 1 else 0) := by
  pointwise [k0_pay2, prob, ex, smax, score, hit]
  simp only [bit_float]
  rfl

/-- Row `i` of a block of tokens through the device's four experts side by side, each weighted: column `h`. -/
def mix (a : Mat 64 256) (w : Mat 256 2048) (f : Mat 64 4) (i : Fin 64) (h : Fin 512) : EReal :=
  ∑ k : Fin 4, (∑ d : Fin 256, a (ix2 i d) * w (ix2 d ⟨512 * k + h, by omega⟩)) * f (ix2 i k)

/-- The four terms of `mix`. -/
theorem mix_four (a : Mat 64 256) (w : Mat 256 2048) (f : Mat 64 4) (i : Fin 64) (h : Fin 512) :
    mix a w f i h = (∑ d : Fin 256, a (ix2 i d) * w (ix2 d ⟨h, by omega⟩)) * f (ix2 i 0)
      + (∑ d : Fin 256, a (ix2 i d) * w (ix2 d ⟨512 + h, by omega⟩)) * f (ix2 i 1)
      + (∑ d : Fin 256, a (ix2 i d) * w (ix2 d ⟨1024 + h, by omega⟩)) * f (ix2 i 2)
      + (∑ d : Fin 256, a (ix2 i d) * w (ix2 d ⟨1536 + h, by omega⟩)) * f (ix2 i 3) := by
  unfold mix
  rw [Fin.sum_univ_four]
  have e0 : (⟨512 * ((0 : Fin 4) : ℕ) + h, by omega⟩ : Fin 2048) = ⟨h, by omega⟩ := Fin.ext (Nat.zero_add _)
  simp only [e0]
  rfl

/-- The chunk sent, at an index. -/
theorem pay9_apply (a : Vec Ideal S64x256 .bf16) (w : Vec Ideal S256x2048 .bf16) (f : Vec Ideal S64x4 .f32) (i : Fin 64) (h : Fin 512) :
    k0_pay9 a w f (ix3 0 i h) = mix a w f i h := by
  pointwise [k0_pay9]
  exact (mix_four a w f i h).symm

/-- The device's own part with the shared expert, at an index. -/
theorem pay24_apply (a : Vec Ideal S64x256 .bf16) (w : Vec Ideal S256x2048 .bf16) (f : Vec Ideal S64x4 .f32) (b : Vec Ideal S64x256 .bf16)
    (s : Vec Ideal S256x512 .bf16) (i : Fin 64) (h : Fin 512) :
    k0_pay24 a w f b s (ix2 i h) = mix a w f i h + ∑ d : Fin 256, b (ix2 i d) * s (ix2 d h) := by
  pointwise [k0_pay24]
  rw [mix_four]

/-- The seven chunks received, added to the own part in turn. -/
theorem sum_apply (o : FVec Ideal S64x512 .f32) (c : Fin 7 → Vec Ideal S1x64x512 .bf16) (i : Fin 64) (h : Fin 512) :
    k0_pay28 (k0_pay26 (k0_pay25 o (c 0) (c 1)) (c 2) (c 3)) (k0_pay27 (c 4)) (c 5) (c 6) (ix2 i h)
      = o (ix2 i h) + ∑ r : Fin 7, c r (ix3 0 i h) := by
  pointwise [k0_pay28, k0_pay26, k0_pay25, k0_pay27]
  rw [Fin.sum_univ_seven]
  simp only [add_assoc]

end Cert.KernelIdealProof

end
-- ==== Proof.Values.lean ====
/-
# The kernel's result on extended reals

Element `(i, h)` of device `c`'s result: the shared expert's product with token `64 c + i`, and the part of each device's
four experts in it.
-/
module

public import proofs.«01_k».proof.Proof.Spec
public import proofs.«01_k».proof.Proof.Final

@[expose] public section

set_option maxRecDepth 16384

noncomputable section

namespace Cert.KernelIdealProof

open Cert.KernelIdeal Cert.KernelIdeal.Gen
open Idealize.ShloMosaic
open Idealize.ShloMosaic.TcCoe

variable (m : (ℓ : Loc nD τ sig) → Buf (Elt Ideal) ℓ) (ρ : Dev nD → PrngReg)

/-- The argument arrays on device `c`. -/
abbrev argX (c : Dev nD) : Mat 512 256 := m ((c : Thread nD τ).loc main_arg0)
abbrev argR (c : Dev nD) : Mat 256 32 := m ((c : Thread nD τ).loc main_arg1)
abbrev argI (c : Dev nD) : (⟨2, ![512, 1]⟩ : Shape).Idx → BitVec 32 := m ((c : Thread nD τ).loc main_arg2)
abbrev argE (c : Dev nD) : (⟨3, ![4, 256, 512]⟩ : Shape).Idx → EReal := m ((c : Thread nD τ).loc main_arg3)
abbrev argS (c : Dev nD) : Mat 256 512 := m ((c : Thread nD τ).loc main_arg4)

/-! ## The three scratch buffers -/

/-- The tokens kept are the first argument. -/
theorem xbC_eq (c : Dev nD) : xbC m ρ c = argX m c := by
  unfold xbC k0_pay3 k0_pay1
  rw [xIn_eq]
  exact (shapeCast_self _ _).trans (shapeCast_self _ _)

/-- A column block of the weight buffer, written, read inside the block; -/
theorem wc_hit (o : ℕ) (hb : ∀ a, (![0, o] : Fin 2 → Nat) a + S256x512.size a ≤ S256x2048.size a)
    (f : (cc0_scratch1 : Ref sig .tc).ty.Contents (Elt Ideal)) (w : S256x512.Idx → Elt Ideal .bf16) (d : Fin 256) (h : Fin 512)
    (q : Fin 2048) (hq : q.val = o + h.val) :
    (wcM.access (Rect.unit (s := S256x2048) ![0, o] S256x512.size hb) : View sig .tc _ _ _).write (Elt Ideal) f w Finset.univ (ix2 d q)
      = w (ix2 d h) := by
  have e : (ix2 d q : S256x2048.Idx) = (wcM.access (Rect.unit (s := S256x2048) ![0, o] S256x512.size hb) : View sig .tc _ _ _).emb (ix2 d h) := by
    funext a
    apply Fin.ext
    fin_cases a
    · show d.val = 0 + 1 * d.val; omega
    · show q.val = o + 1 * h.val; omega
  rw [e]
  exact View.write_emb_of_mem _ _ (Finset.mem_univ _)

/-- and outside it. -/
theorem wc_miss (o : ℕ) (hb : ∀ a, (![0, o] : Fin 2 → Nat) a + S256x512.size a ≤ S256x2048.size a)
    (f : (cc0_scratch1 : Ref sig .tc).ty.Contents (Elt Ideal)) (w : S256x512.Idx → Elt Ideal .bf16) (d : Fin 256)
    (q : Fin 2048) (hq : q.val < o) :
    (wcM.access (Rect.unit (s := S256x2048) ![0, o] S256x512.size hb) : View sig .tc _ _ _).write (Elt Ideal) f w Finset.univ (ix2 d q)
      = f (ix2 d q) := by
  refine View.write_of_not_mem _ _ _ fun hm => ?_
  rw [show (wcM.access (Rect.unit (s := S256x2048) ![0, o] S256x512.size hb) : View sig .tc _ _ _).setOn Finset.univ = _ from
    View.set_slice_whole cc0_scratch1 _, Rect.mem_set_unit] at hm
  have := (hm 1).1
  exact absurd this (Nat.not_le.2 hq)

/-- Expert `k`'s matrix, loaded. -/
theorem ew_load (k : ℕ) (hk : k < 4) (hb : ∀ a, (![k, 0, 0] : Fin 3 → Nat) a + S1x256x512.size a ≤ S4x256x512.size a) (c : Dev nD) (d : Fin 256) (h : Fin 512) :
    ewM.view.readAt (Elt Ideal) (Rect.unit (s := S4x256x512) ![k, 0, 0] S1x256x512.size hb).toLoadRect (ewIn m ρ c) (ix3 0 d h)
      = argE m c (ix3 ⟨k, hk⟩ d h) := by
  rw [ewIn_eq]
  show m _ _ = m _ _
  congr 1
  funext a
  apply Fin.ext
  fin_cases a
  · show k + 1 * 0 = k; omega
  · show 0 + 1 * d.val = d.val; omega
  · show 0 + 1 * h.val = h.val; omega

/-- The weight buffer: expert `k`'s column `h` is its column `512 k + h`. -/
theorem wcC_apply (c : Dev nD) (d : Fin 256) (k : Fin 4) (h : Fin 512) :
    wcC m ρ c (ix2 d ⟨512 * k + h, by omega⟩ : S256x2048.Idx) = argE m c (ix3 k d h) := by
  unfold wcC wcOver
  have p5 : ∀ v : Vec Ideal S1x256x512 .bf16, k0_pay5 (k0_pay4 v) (ix2 d h) = v (ix3 0 d h) := fun v => by pointwise [k0_pay5, k0_pay4]
  have p6 : ∀ v : Vec Ideal S1x256x512 .bf16, k0_pay6 v (ix2 d h) = v (ix3 0 d h) := fun v => by pointwise [k0_pay6]
  have p7 : ∀ v : Vec Ideal S1x256x512 .bf16, k0_pay7 v (ix2 d h) = v (ix3 0 d h) := fun v => by pointwise [k0_pay7]
  have p8 : ∀ v : Vec Ideal S1x256x512 .bf16, k0_pay8 v (ix2 d h) = v (ix3 0 d h) := fun v => by pointwise [k0_pay8]
  match k with
  | ⟨0, _⟩ =>
    refine (wc_miss 1536 _ _ _ d _ (by show 512 * 0 + h.val < _; omega)).trans ((wc_miss 1024 _ _ _ d _ (by show 512 * 0 + h.val < _; omega)).trans
      ((wc_miss 512 _ _ _ d _ (by show 512 * 0 + h.val < _; omega)).trans ((wc_hit 0 _ _ _ d h _ (by show 512 * 0 + h.val = _; omega)).trans ((p5 _).trans (ew_load m ρ 0 _ _ c d h)))))
  | ⟨1, _⟩ =>
    refine (wc_miss 1536 _ _ _ d _ (by show 512 * 1 + h.val < _; omega)).trans ((wc_miss 1024 _ _ _ d _ (by show 512 * 1 + h.val < _; omega)).trans
      ((wc_hit 512 _ _ _ d h _ (by show 512 * 1 + h.val = _; omega)).trans ((p6 _).trans (ew_load m ρ 1 _ _ c d h))))
  | ⟨2, _⟩ =>
    refine (wc_miss 1536 _ _ _ d _ (by show 512 * 2 + h.val < _; omega)).trans
      ((wc_hit 1024 _ _ _ d h _ (by show 512 * 2 + h.val = _; omega)).trans ((p7 _).trans (ew_load m ρ 2 _ _ c d h)))
  | ⟨3, _⟩ =>
    exact (wc_hit 1536 _ _ _ d h _ (by show 512 * 3 + h.val = _; omega)).trans ((p8 _).trans (ew_load m ρ 3 _ _ c d h))

/-- The weight of expert `e` for token `t`: the probability of the expert that the token names, if that is `e`. -/
def weight (x : Mat 512 256) (r : Mat 256 32) (w : BitVec 32) (t : Fin 512) (e : ℕ) : EReal :=
  (∑ j : Fin 32, prob x r t j * hit w j) * hit w e

/-- The device's word times four, plus `k`, is the number of its expert `k`. -/
theorem dev_word : ∀ (c : Dev nD) (k : Fin 4), devW c * 4#32 + BitVec.ofNat 32 k = BitVec.ofNat 32 (4 * c.val + k.val) := by decide +kernel

/-- The coefficient table. -/
theorem coC_apply (c : Dev nD) (t : Fin 512) (k : Fin 4) :
    coC m ρ c (ix2 t k : S512x4.Idx) = weight (argX m c) (argR m c) (argI m c (ix2 t 0)) t (4 * c.val + k.val) := by
  unfold coC
  refine (pay2_apply _ _ _ _ t k).trans ?_
  rw [rwIn_eq, ixIn_eq, xIn_eq, dev_word]
  have e : k0_pay1 (F := Ideal) (m ((c : Thread nD τ).loc main_arg0)) = m ((c : Thread nD τ).loc main_arg0) := by
    unfold k0_pay1; exact shapeCast_self _ _
  unfold weight
  rw [e]
  rfl

/-! ## Blocks of rows -/

/-- The rows that device `c` computes for peer `r` are that peer's. -/
theorem off1_eq : ∀ (c : Dev nD) (r : Fin 7), k0_off1 c (BitVec.ofNat 32 (1 + r.val)) = ![64 * (up r c).val, 0] := by decide +kernel
theorem off2_eq : ∀ (c : Dev nD) (r : Fin 7), k0_off2 c (BitVec.ofNat 32 (1 + r.val)) = ![64 * (up r c).val, 0] := by decide +kernel

/-- Token `i` of device `s`. -/
abbrev tok (s : Dev nD) (i : Fin 64) : Fin 512 := ⟨64 * s.val + i.val, by have := s.isLt; have : s.val < 8 := s.isLt; omega⟩

/-- A block of token rows, loaded. -/
theorem xb_load (o : Fin 2 → Nat) (hb : ∀ a, o a + S64x256.size a ≤ S512x256.size a) (s : Dev nD) (ho : o = ![64 * s.val, 0])
    (f : Mat 512 256) (i : Fin 64) (d : Fin 256) :
    xbM.view.readAt (Elt Ideal) (Rect.unit (s := S512x256) o S64x256.size hb).toLoadRect f (ix2 i d) = f (ix2 (tok s i) d) := by
  subst ho
  show f _ = f _
  congr 1
  funext a
  apply Fin.ext
  fin_cases a
  · show 64 * s.val + 1 * i.val = 64 * s.val + i.val; omega
  · show 0 + 1 * d.val = d.val; omega

/-- A block of coefficient rows, loaded. -/
theorem co_load (o : Fin 2 → Nat) (hb : ∀ a, o a + S64x4.size a ≤ S512x4.size a) (s : Dev nD) (ho : o = ![64 * s.val, 0])
    (f : Mat 512 4) (i : Fin 64) (k : Fin 4) :
    coM.view.readAt (Elt Ideal) (Rect.unit (s := S512x4) o S64x4.size hb).toLoadRect f (ix2 i k) = f (ix2 (tok s i) k) := by
  subst ho
  show f _ = f _
  congr 1
  funext a
  apply Fin.ext
  fin_cases a
  · show 64 * s.val + 1 * i.val = 64 * s.val + i.val; omega
  · show 0 + 1 * k.val = k.val; omega

/-- The part of device `s`'s experts in token `t`'s result. -/
def part (s : Dev nD) (t : Fin 512) (h : Fin 512) : EReal :=
  ∑ k : Fin 4, (∑ d : Fin 256, argX m s (ix2 t d) * argE m s (ix3 k d h))
    * weight (argX m s) (argR m s) (argI m s (ix2 t 0)) t (4 * s.val + k.val)

/-- A block of rows through device `s`'s experts is its part in them. -/
theorem mix_part (s p : Dev nD) (a : Mat 64 256) (f : Mat 64 4) (i : Fin 64) (h : Fin 512)
    (ha : ∀ d, a (ix2 i d) = xbC m ρ s (ix2 (tok p i) d : S512x256.Idx)) (hf : ∀ k, f (ix2 i k) = coC m ρ s (ix2 (tok p i) k : S512x4.Idx)) :
    mix a (wcC m ρ s) f i h = part m s (tok p i) h := by
  unfold mix part
  refine Finset.sum_congr rfl fun k _ => ?_
  rw [hf k, coC_apply]
  congr 1
  refine Finset.sum_congr rfl fun d _ => ?_
  rw [ha d, wcC_apply, xbC_eq]

/-- What device `s` computes for peer `r`: its part in the peer's tokens. -/
theorem chunk_apply (s : Dev nD) (r : Fin 7) (i : Fin 64) (h : Fin 512) :
    chunk m ρ s r (ix3 0 i h : S1x64x512.Idx) = part m s (tok (up r s) i) h := by
  unfold chunk
  refine (pay9_apply _ _ _ i h).trans (mix_part m ρ s (up r s) _ _ i h (fun d => ?_) (fun k => ?_))
  · exact xb_load _ _ _ (off1_eq s r) _ i d
  · exact co_load _ _ _ (off2_eq s r) _ i k

/-- What device `c` computes for itself. -/
theorem own_apply (c : Dev nD) (i : Fin 64) (h : Fin 512) :
    own m ρ c (ix2 i h : S64x512.Idx) = part m c (tok c i) h + ∑ d : Fin 256, argX m c (ix2 (tok c i) d) * argS m c (ix2 d h) := by
  unfold own
  refine (pay24_apply _ _ _ _ _ i h).trans ?_
  rw [mix_part m ρ c c _ _ i h (fun d => xb_load _ _ _ (k0_off3_eq c) _ i d) (fun k => co_load _ _ _ (k0_off4_eq c) _ i k), swIn_eq]
  congr 1
  refine Finset.sum_congr rfl fun d _ => ?_
  rw [show xbM.view.readAt (Elt Ideal) (xbO c).toLoadRect (xbC m ρ c) (ix2 i d) = _ from xb_load _ _ _ (k0_off3_eq c) _ i d, xbC_eq]

/-- A sum over the devices is the term of one of them and those of the seven below it. -/
theorem sum_dev (g : Dev nD → EReal) (c : Dev nD) : ∑ s : Dev nD, g s = g c + ∑ r : Fin 7, g (dn r c) := by
  have hd : ∀ (c : Fin 8) (r : Fin 7), c - r.succ = (dn r c : Fin 8) := by decide
  refine ((Equiv.sum_comp (Equiv.subLeft (c : Fin 8)) (fun s : Fin 8 => g s)).symm.trans (Fin.sum_univ_succ _)).trans ?_
  simp only [Equiv.subLeft_apply, hd, sub_zero]

/-- Device `c`'s result: the shared expert's product and all eight devices' parts. -/
theorem outAt_apply (c : Dev nD) (i : Fin 64) (h : Fin 512) :
    outAt m ρ c (ix2 i h : S64x512.Idx)
      = (∑ d : Fin 256, argX m c (ix2 (tok c i) d) * argS m c (ix2 d h)) + ∑ s : Dev nD, part m s (tok c i) h := by
  unfold outAt
  refine (sum_apply _ (fun r => inc m ρ c r) i h).trans ?_
  rw [own_apply]
  have e : ∀ r : Fin 7, inc m ρ c r (ix3 0 i h : S1x64x512.Idx) = part m (dn r c) (tok c i) h := fun r => by
    refine (chunk_apply m ρ (dn r c) r i h).trans ?_
    rw [up_dn]
  rw [Finset.sum_congr rfl fun r _ => e r]
  rw [sum_dev _ c]
  ac_rfl

end Cert.KernelIdealProof

end
-- ==== Proof.RefValue.lean ====
/-
# The reference on extended reals

Each stage of the reference read at an index: the probabilities, the token's probability of its expert, the expert's
weights, and the result.
-/
module

public import proofs.«01_k».proof.Proof.Spec
public import proofs.«01_k».proof.Proof.Gen.ReferenceIdeal.Run
public import Idealize.ShloMosaic.Lib.Tactic.CleanTypes

@[expose] public section

set_option maxRecDepth 16384

noncomputable section

namespace Cert.ReferenceIdealProof

open Cert.ReferenceIdeal Cert.ReferenceIdeal.Gen Cert.ReferenceIdeal.Value
open Cert.KernelIdealProof (Mat score smax ex prob hit)
open Idealize.ShloMosaic
open Idealize.ShloMosaic.TcCoe

/-- The index words as a column. -/
def col (ix : IVec S512x1 32) : IVec S512x1 32 :=
  broadcastInDim S512x1 ![0] bcast_S512_S512x1_0 (shapeCast S512 ix shapeCasts_S512x1_S512)

/-- Each token's number beside its index word. -/
def pairs (ix : IVec S512x1 32) : IVec S512x2 32 :=
  concatenate S512x2 1 [⟨S512x1, broadcastInDim S512x1 ![0] bcast_S512_S512x1_0 (iotaInDim S512 32 0)⟩, ⟨S512x1, col ix⟩]
    concatenates_S512x1_S512x1_S512x2_d1

/-- The probabilities. -/
def probs (x : FVec Ideal S512x256 .bf16) (r : FVec Ideal S256x32 .bf16) : FVec Ideal S512x32 .f32 :=
  let s := Host.dotGeneral dot_S512x256_S256x32_S512x32_1_0_0_1_n_n none (extf .f32 x bitsLt_bf16_f32) (extf .f32 r bitsLt_bf16_f32)
  let e := Host.exp (subf s (broadcastInDim S512x32 ![0, 1] bcast_S512x1_S512x32_0_1 (broadcastInDim S512x1 ![0] bcast_S512_S512x1_0
    (Host.reduce FloatOps.maximumf s (constant S_ .f32 0xFF800000#32) reducesTo_S512x32_S512_d1 h_S_))))
  Host.divf e (broadcastInDim S512x32 ![0, 1] bcast_S512x1_S512x32_0_1 (broadcastInDim S512x1 ![0] bcast_S512_S512x1_0
    (Host.reduceAdd e (constant S_ .f32 0x00000000#32) reducesTo_S512x32_S512_d1 h_S_)))

/-- Which tokens' pairs are inside the table of probabilities. -/
def pairIn (ix : IVec S512x1 32) : IVec S512 1 :=
  Host.reduce IntOp.andi (andi (cmpi .sge (pairs ix) (broadcastInDim S512x2 ![] bcast_S_S512x2 (constantI S_ 32 0#32)))
    (cmpi .sle (pairs ix) (broadcastInDim S512x2 ![0, 1] bcast_S1x2_S512x2_0_1 (broadcastInDim S1x2 ![1] bcast_S2_S1x2_1
      (fun i => lit0 (S2.rowMajor i)))))) (constantI S_ 1 1#1) reducesTo_S512x2_S512_d1 h_S_

/-- Which tokens' index words name an expert. -/
def colIn (ix : IVec S512x1 32) : IVec S512 1 :=
  Host.reduce IntOp.andi (andi (cmpi .sge (col ix) (broadcastInDim S512x1 ![] bcast_S_S512x1 (constantI S_ 32 0#32)))
    (cmpi .sle (col ix) (broadcastInDim S512x1 ![0, 1] bcast_S1x1_S512x1_0_1 (broadcastInDim S1x1 ![1] bcast_S1_S1x1_1
      (constantI S1 32 31#32))))) (constantI S_ 1 1#1) reducesTo_S512x1_S512_d1 h_S_

/-- Each token's probability of its expert. -/
def pick (x : FVec Ideal S512x256 .bf16) (r : FVec Ideal S256x32 .bf16) (ix : IVec S512x1 32) : FVec Ideal S512 .f32 :=
  select (pairIn ix) (Host.gather gather_S512x32_S512x2_S512_n_01_n_n_01_1_11 (probs x r) (pairs ix))
    (broadcastInDim S512 ![] bcast_S_S512 (constant S_ .f32 0x00000000#32))

/-- Each token's expert's weights. -/
def mats (w : FVec Ideal S32x256x512 .bf16) (ix : IVec S512x1 32) : FVec Ideal S512x256x512 .bf16 :=
  select (broadcastInDim S512x256x512 ![0] bcast_S512_S512x256x512_0 (colIn ix))
    (Host.gather gather_S32x256x512_S512x1_S512x256x512_12_0_n_n_0_1_1256512 w (col ix))
    (broadcastInDim S512x256x512 ![] bcast_S_S512x256x512 (constant S_ .bf16 0x0000#16))

/-- The reference's result. -/
def layer (x : FVec Ideal S512x256 .bf16) (r : FVec Ideal S256x32 .bf16) (ix : IVec S512x1 32) (w : FVec Ideal S32x256x512 .bf16)
    (s : FVec Ideal S256x512 .bf16) : FVec Ideal S512x512 .f32 :=
  addf (Host.dotGeneral dot_S512x256_S256x512_S512x512_1_0_0_1_n_n none (extf .f32 x bitsLt_bf16_f32) (extf .f32 s bitsLt_bf16_f32))
    (mulf (broadcastInDim S512x512 ![0, 1] bcast_S512x1_S512x512_0_1 (broadcastInDim S512x1 ![0] bcast_S512_S512x1_0 (pick x r ix)))
      (Host.dotGeneral dot_S512x256_S512x256x512_S512x512_1_1_n_2_0_0 none (extf .f32 x bitsLt_bf16_f32)
        (extf .f32 (mats w ix) bitsLt_bf16_f32)))

/-- The result's term is `layer` of the arguments. -/
theorem res_eq (m : (ℓ : Loc nD τ sig) → Buf (Elt Ideal) ℓ) (c : Dev nD) :
    res_main_v46 m c = layer (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-- The column at a token. -/
theorem col_apply (ix : IVec S512x1 32) (t : Fin 512) : col ix (ix2 t 0) = ix (ix2 t 0) := by
  pointwise [col]

/-- A pair's first half. -/
theorem pairs_zero (ix : IVec S512x1 32) (t : Fin 512) : pairs ix (ix2 t 0) = BitVec.ofNat 32 t := by
  pointwise [pairs]

/-- A pair's second half. -/
theorem pairs_one (ix : IVec S512x1 32) (t : Fin 512) : pairs ix (ix2 t 1) = ix (ix2 t 0) := by
  pointwise [pairs, col]

/-- The probabilities at an index. -/
theorem probs_apply (x : FVec Ideal S512x256 .bf16) (r : FVec Ideal S256x32 .bf16) (t : Fin 512) (j : Fin 32) :
    probs x r (ix2 t j) = prob x r t j := by
  pointwise [probs, prob, ex, smax, score]

/-- A word between 0 and 31, read off the two comparisons. -/
theorem word_in (w : BitVec 32) :
    IntOp.andi (IntOp.cmpi .sge w 0#32) (IntOp.cmpi .sle w 31#32) = BitVec.ofBool (decide (0 ≤ w.toInt ∧ w.toInt ≤ 31)) := by
  show BitVec.ofBool _ &&& BitVec.ofBool _ = _
  rw [BitVec.ofBool_and_ofBool]
  congr 1
  rw [Bool.decide_and]
  rfl

/-- A token's number is inside the table. -/
theorem row_in (t : Fin 512) :
    IntOp.andi (IntOp.cmpi .sge (BitVec.ofNat 32 t) 0#32) (IntOp.cmpi .sle (BitVec.ofNat 32 t) (lit0 (S2.rowMajor (ix1 0)))) = 1#1 := by
  revert t
  decide +kernel

/-- A pair is inside the table just where its index word names an expert. -/
theorem pairIn_apply (ix : IVec S512x1 32) (t : Fin 512) :
    pairIn ix (ix1 t) = BitVec.ofBool (decide (0 ≤ (ix (ix2 t 0)).toInt ∧ (ix (ix2 t 0)).toInt ≤ 31)) := by
  unfold pairIn
  pointwise
  rw [show (Finset.univ : Finset (Fin 2)) = {0, 1} from rfl, Finset.fold_insert (by decide), Finset.fold_singleton, pairs_zero, pairs_one,
    row_in t]
  show IntOp.andi 1#1 (IntOp.andi (IntOp.andi (IntOp.cmpi .sge (ix (ix2 t 0)) 0#32) (IntOp.cmpi .sle (ix (ix2 t 0)) 31#32)) 1#1) = _
  rw [word_in]
  exact (by decide : ∀ b : BitVec 1, IntOp.andi 1#1 (IntOp.andi b 1#1) = b) _

/-- The same of the column. -/
theorem colIn_apply (ix : IVec S512x1 32) (t : Fin 512) :
    colIn ix (ix1 t) = BitVec.ofBool (decide (0 ≤ (ix (ix2 t 0)).toInt ∧ (ix (ix2 t 0)).toInt ≤ 31)) := by
  unfold colIn
  pointwise
  rw [show (Finset.univ : Finset (Fin 1)) = {0} from rfl, Finset.fold_singleton, col_apply, word_in]
  exact (by decide : ∀ b : BitVec 1, IntOp.andi b 1#1 = b) _

/-- The table read at a pair inside it. -/
theorem gather_table (x : FVec Ideal S512x32 .f32) (p : IVec S512x2 32) (t : Fin 512) (e : Fin 32)
    (h0 : (p (ix2 t 0)).toInt.toNat = t) (h1 : (p (ix2 t 1)).toInt.toNat = e) :
    Host.gather gather_S512x32_S512x2_S512_n_01_n_n_01_1_11 x p (ix1 t) = x (ix2 t e) := by
  refine congrArg x (funext fun a => Fin.ext ?_)
  show GatherDims.start _ _ p a + GatherDims.batchCoord _ _ a + GatherDims.offCoord _ _ a = _
  rw [GatherDims.batchCoord_eq_zero _ _ _ List.not_mem_nil, Nat.add_zero]
  match a with
  | ⟨0, _⟩ =>
    have hs : GatherDims.siIdx gather_S512x32_S512x2_S512_n_01_n_n_01_1_11 (ix1 t) ⟨0, by decide⟩ = ix2 t 0 :=
      funext fun b => match b with | ⟨0, _⟩ => rfl | ⟨1, _⟩ => rfl
    show min (p (GatherDims.siIdx gather_S512x32_S512x2_S512_n_01_n_n_01_1_11 (ix1 t) ⟨0, by decide⟩)).toInt.toNat 511 = t.val
    rw [hs, h0]
    omega
  | ⟨1, _⟩ =>
    have hs : GatherDims.siIdx gather_S512x32_S512x2_S512_n_01_n_n_01_1_11 (ix1 t) ⟨1, by decide⟩ = ix2 t 1 :=
      funext fun b => match b with | ⟨0, _⟩ => rfl | ⟨1, _⟩ => rfl
    show min (p (GatherDims.siIdx gather_S512x32_S512x2_S512_n_01_n_n_01_1_11 (ix1 t) ⟨1, by decide⟩)).toInt.toNat 31 = e.val
    rw [hs, h1]
    omega

/-- The expert's weights read at an index word naming one. -/
theorem gather_expert (w : FVec Ideal S32x256x512 .bf16) (p : IVec S512x1 32) (t : Fin 512) (e : Fin 32) (d : Fin 256) (h : Fin 512)
    (h0 : (p (ix2 t 0)).toInt.toNat = e) :
    Host.gather gather_S32x256x512_S512x1_S512x256x512_12_0_n_n_0_1_1256512 w p (ix3 t d h) = w (ix3 e d h) := by
  refine congrArg w (funext fun a => Fin.ext ?_)
  show GatherDims.start _ _ p a + GatherDims.batchCoord _ _ a + GatherDims.offCoord _ _ a = _
  rw [GatherDims.batchCoord_eq_zero _ _ _ List.not_mem_nil, Nat.add_zero]
  match a with
  | ⟨0, _⟩ =>
    have hs : GatherDims.siIdx gather_S32x256x512_S512x1_S512x256x512_12_0_n_n_0_1_1256512 (ix3 t d h) ⟨0, by decide⟩ = ix2 t 0 :=
      funext fun b => match b with | ⟨0, _⟩ => rfl | ⟨1, _⟩ => rfl
    show min (p (GatherDims.siIdx gather_S32x256x512_S512x1_S512x256x512_12_0_n_n_0_1_1256512 (ix3 t d h) ⟨0, by decide⟩)).toInt.toNat 31 = e.val
    rw [hs, h0]
    omega
  | ⟨1, _⟩ => exact Nat.zero_add _
  | ⟨2, _⟩ => exact Nat.zero_add _

/-- The table's entry for a token whose index word names expert `e`. -/
theorem pick_in (x : FVec Ideal S512x256 .bf16) (r : FVec Ideal S256x32 .bf16) (ix : IVec S512x1 32) (t : Fin 512) (e : Fin 32)
    (he : ix (ix2 t 0) = BitVec.ofNat 32 e) : pick x r ix (ix1 t) = prob x r t e := by
  show Scalar.select (pairIn ix (ix1 t)) (Host.gather _ (probs x r) (pairs ix) (ix1 t)) _ = _
  rw [pairIn_apply, he, show decide (0 ≤ (BitVec.ofNat 32 e).toInt ∧ (BitVec.ofNat 32 e).toInt ≤ 31) = true from
    (by decide +kernel : ∀ e : Fin 32, decide (0 ≤ (BitVec.ofNat 32 e).toInt ∧ (BitVec.ofNat 32 e).toInt ≤ 31) = true) e]
  refine (if_pos rfl).trans ((gather_table (probs x r) (pairs ix) t e ?_ ?_).trans (probs_apply x r t e))
  · rw [pairs_zero]
    exact (by decide +kernel : ∀ t : Fin 512, (BitVec.ofNat 32 t).toInt.toNat = t.val) t
  · rw [pairs_one, he]
    exact (by decide +kernel : ∀ e : Fin 32, (BitVec.ofNat 32 e).toInt.toNat = e.val) e

/-- The weights of a token whose index word names expert `e`. -/
theorem mats_in (w : FVec Ideal S32x256x512 .bf16) (ix : IVec S512x1 32) (t : Fin 512) (e : Fin 32)
    (he : ix (ix2 t 0) = BitVec.ofNat 32 e) (d : Fin 256) (h : Fin 512) : mats w ix (ix3 t d h) = w (ix3 e d h) := by
  unfold mats
  pointwise
  rw [colIn_apply, he, show decide (0 ≤ (BitVec.ofNat 32 e).toInt ∧ (BitVec.ofNat 32 e).toInt ≤ 31) = true from
    (by decide +kernel : ∀ e : Fin 32, decide (0 ≤ (BitVec.ofNat 32 e).toInt ∧ (BitVec.ofNat 32 e).toInt ≤ 31) = true) e]
  refine (if_pos rfl).trans (gather_expert w (col ix) t e d h ?_)
  rw [col_apply, he]
  exact (by decide +kernel : ∀ e : Fin 32, (BitVec.ofNat 32 e).toInt.toNat = e.val) e

/-- A word between 0 and 31 is one of the experts' numbers. -/
theorem word_names (w : BitVec 32) (h : 0 ≤ w.toInt ∧ w.toInt ≤ 31) : ∃ e : Fin 32, w = BitVec.ofNat 32 e := by
  have hw : w.toNat < 32 := by
    have := BitVec.toInt_eq_toNat_cond w
    split at this <;> omega
  exact ⟨⟨w.toNat, hw⟩, (BitVec.ofNat_toNat 32 w).symm ▸ (BitVec.setWidth_eq w).symm⟩

/-- A token whose index word names no expert has probability zero. -/
theorem pick_out (x : FVec Ideal S512x256 .bf16) (r : FVec Ideal S256x32 .bf16) (ix : IVec S512x1 32) (t : Fin 512)
    (he : ∀ e : Fin 32, ix (ix2 t 0) ≠ BitVec.ofNat 32 e) : pick x r ix (ix1 t) = 0 := by
  show Scalar.select (pairIn ix (ix1 t)) _ _ = _
  rw [pairIn_apply, decide_eq_false fun h => (word_names _ h).elim fun e h => he e h]
  refine (if_neg (by decide)).trans ?_
  pointwise

/-- The result at an index. -/
theorem layer_apply (x : FVec Ideal S512x256 .bf16) (r : FVec Ideal S256x32 .bf16) (ix : IVec S512x1 32) (w : FVec Ideal S32x256x512 .bf16)
    (s : FVec Ideal S256x512 .bf16) (t h : Fin 512) :
    layer x r ix w s (ix2 t h) = (∑ d : Fin 256, x (ix2 t d) * s (ix2 d h))
      + pick x r ix (ix1 t) * ∑ d : Fin 256, x (ix2 t d) * mats w ix (ix3 t d h) := by
  pointwise [layer]

end Cert.ReferenceIdealProof

end
-- ==== Proof.Equation.lean ====
/-
# The two results are equal on extended reals

Of a token's thirty-two experts only the one its index word names has a weight that is not zero, so the sum of the eight
devices' parts is that expert's product times the token's probability of it, which is the reference's term.
-/
module

public import proofs.«01_k».proof.Proof.Values
public import proofs.«01_k».proof.Proof.RefValue
public import Idealize.ShloMosaic.Lib.Layout

@[expose] public section

set_option maxRecDepth 16384

noncomputable section

namespace Cert.KernelIdealProof

open Cert.KernelIdeal Cert.KernelIdeal.Gen
open Cert.ReferenceIdealProof (pick mats layer layer_apply pick_in pick_out mats_in)
open Idealize.ShloMosaic
open Idealize.ShloMosaic.TcCoe

/-! ## The weights -/

/-- Two experts' numbers are the same word just where they are the same. -/
theorem word_inj (a b : ℕ) (ha : a < 32) (hb : b < 32) (h : BitVec.ofNat 32 a = BitVec.ofNat 32 b) : a = b := by
  have := congrArg BitVec.toNat h
  rw [BitVec.toNat_ofNat, BitVec.toNat_ofNat, Nat.mod_eq_of_lt (by omega), Nat.mod_eq_of_lt (by omega)] at this
  exact this

/-- The named expert is hit, -/
theorem hit_self (e : ℕ) : hit (BitVec.ofNat 32 e) e = 1 := if_pos rfl

/-- and no other. -/
theorem hit_ne (a e : ℕ) (ha : a < 32) (he : e < 32) (h : a ≠ e) : hit (BitVec.ofNat 32 e) a = 0 :=
  if_neg fun q => h (word_inj e a he ha q).symm

/-- The named expert's weight is the token's probability of it. -/
theorem weight_self (x : Mat 512 256) (r : Mat 256 32) (t : Fin 512) (e : Fin 32) :
    weight x r (BitVec.ofNat 32 e) t e = prob x r t e := by
  unfold weight
  rw [hit_self, mul_one, Fintype.sum_eq_single e fun j hj => by
    rw [hit_ne j e j.isLt e.isLt fun q => hj (Fin.ext q), mul_zero], hit_self, mul_one]

/-- A weight is zero where the index word is not the expert's number. -/
theorem weight_ne (x : Mat 512 256) (r : Mat 256 32) (w : BitVec 32) (t : Fin 512) (e : ℕ) (h : w ≠ BitVec.ofNat 32 e) :
    weight x r w t e = 0 := by
  unfold weight
  rw [show hit w e = 0 from if_neg h, mul_zero]

/-! ## The sum of the devices' parts -/

/-- The device's `k`-th expert. -/
abbrev expert (s : Dev nD) (k : Fin 4) : Fin 32 := ⟨4 * s.val + k.val, by have : s.val < 8 := s.isLt; omega⟩

section
variable (m : (ℓ : Loc nD τ sig) → Buf (Elt Ideal) ℓ) (x : Mat 512 256) (r : Mat 256 32)
  (ix : (⟨2, ![512, 1]⟩ : Shape).Idx → BitVec 32) (w : (⟨3, ![32, 256, 512]⟩ : Shape).Idx → EReal)
  (hx : ∀ s, argX m s = x) (hr : ∀ s, argR m s = r) (hi : ∀ s, argI m s = ix)
  (he : ∀ s k d h, argE m s (ix3 k d h) = w (ix3 (expert s k) d h))
include hx hr hi he

/-- A device's part, in the whole arrays. -/
theorem part_eq (s : Dev nD) (t h : Fin 512) :
    part m s t h = ∑ k : Fin 4, (∑ d : Fin 256, x (ix2 t d) * w (ix3 (expert s k) d h)) * weight x r (ix (ix2 t 0)) t (expert s k) := by
  unfold part
  simp only [hx, hr, hi, he]

/-- The parts' sum for a token whose index word names expert `e`, -/
theorem parts_in (t h : Fin 512) (e : Fin 32) (q : ix (ix2 t 0) = BitVec.ofNat 32 e) :
    ∑ s : Dev nD, part m s t h = (∑ d : Fin 256, x (ix2 t d) * w (ix3 e d h)) * prob x r t e := by
  obtain ⟨s, k, rfl⟩ : ∃ (s : Dev nD) (k : Fin 4), e = expert s k :=
    ⟨(⟨e.val / 4, by omega⟩ : Fin 8), ⟨e.val % 4, by omega⟩, Fin.ext (Nat.div_add_mod e.val 4).symm⟩
  have zero : ∀ (s' : Dev nD) (k' : Fin 4), 4 * s'.val + k'.val ≠ 4 * s.val + k.val →
      weight x r (BitVec.ofNat 32 (expert s k)) t (expert s' k') = 0 := fun s' k' hne =>
    weight_ne _ _ _ _ _ fun q => hne (word_inj _ _ (expert s k).isLt (expert s' k').isLt q).symm
  rw [Fintype.sum_eq_single s fun s' hs => ?_, part_eq m x r ix w hx hr hi he, q, Fintype.sum_eq_single k fun k' hk => ?_, weight_self]
  · rw [zero s k' fun q => hk (Fin.ext (by omega)), mul_zero]
  · rw [part_eq m x r ix w hx hr hi he, q]
    refine Finset.sum_eq_zero fun k' _ => ?_
    rw [zero s' k' fun q => hs (Fin.ext (by have := k.isLt; have := k'.isLt; omega)), mul_zero]

/-- and for one whose index word names none. -/
theorem parts_out (t h : Fin 512) (q : ∀ e : Fin 32, ix (ix2 t 0) ≠ BitVec.ofNat 32 e) : ∑ s : Dev nD, part m s t h = 0 := by
  refine Finset.sum_eq_zero fun s _ => ?_
  rw [part_eq m x r ix w hx hr hi he]
  refine Finset.sum_eq_zero fun k _ => ?_
  rw [weight_ne _ _ _ _ _ (q (expert s k)), mul_zero]

/-- The kernel's element is the reference's. -/
theorem out_eq_layer (ρ : Dev nD → PrngReg) (sw : Mat 256 512) (hs : ∀ s, argS m s = sw) (c : Dev nD) (i : Fin 64) (h : Fin 512) :
    outAt m ρ c (ix2 i h : S64x512.Idx) = layer x r ix w sw (ix2 (tok c i) h) := by
  refine (outAt_apply m ρ c i h).trans (Eq.trans ?_ (layer_apply x r ix w sw (tok c i) h).symm)
  rw [hx, hs]
  congr 1
  by_cases q : ∃ e : Fin 32, ix (ix2 (tok c i) 0) = BitVec.ofNat 32 e
  · obtain ⟨e, q⟩ := q
    rw [parts_in m x r ix w hx hr hi he _ h e q, pick_in x r ix _ e q, mul_comm]
    simp only [mats_in w ix _ e q]
  · rw [parts_out m x r ix w hx hr hi he _ h fun e p => q ⟨e, p⟩, pick_out x r ix _ fun e p => q ⟨e, p⟩, zero_mul]

end

/-- Device `c`'s result is block `c` of the reference's. -/
theorem out_block (m : (ℓ : Loc nD τ sig) → Buf (Elt Ideal) ℓ) (ρ : Dev nD → PrngReg) (x : Mat 512 256) (r : Mat 256 32)
    (ix : (⟨2, ![512, 1]⟩ : Shape).Idx → BitVec 32) (w : (⟨3, ![32, 256, 512]⟩ : Shape).Idx → EReal) (sw : Mat 256 512)
    (hx : ∀ s, argX m s = x) (hr : ∀ s, argR m s = r) (hi : ∀ s, argI m s = ix)
    (he : ∀ s : Dev nD, argE m s = Layout.block ⟨3, ![4, 256, 512]⟩ ⟨3, ![32, 256, 512]⟩ 0 8 s w)
    (hs : ∀ s, argS m s = sw) (c : Dev nD) :
    outAt m ρ c = Layout.block ⟨2, ![64, 512]⟩ ⟨2, ![512, 512]⟩ 0 8 c (layer x r ix w sw) := by
  have he' : ∀ (s : Dev nD) (k : Fin 4) (d : Fin 256) (h : Fin 512), argE m s (ix3 k d h) = w (ix3 (expert s k) d h) := fun s k d h => by
    rw [he, Layout.block_apply]
    refine congrArg w (funext fun b => Fin.ext ?_)
    match b with
    | ⟨0, _⟩ => exact congrArg (· + k.val) (Nat.mul_comm s.val 4)
    | ⟨1, _⟩ => rfl
    | ⟨2, _⟩ => rfl
  generalize hg : layer x r ix w sw = g
  have ho : ∀ (i : Fin 64) (h : Fin 512), outAt m ρ c (ix2 i h : S64x512.Idx) = g (ix2 (tok c i) h) := fun i h => by
    rw [← hg]
    exact out_eq_layer m x r ix w hx hr hi he' ρ sw hs c i h
  generalize outAt m ρ c = o at ho ⊢
  clear hg he he'
  funext j
  obtain ⟨i, h, rfl⟩ : ∃ (i : Fin 64) (h : Fin 512), j = (ix2 i h : S64x512.Idx) :=
    ⟨j 0, j 1, funext fun b => match b with | ⟨0, _⟩ => rfl | ⟨1, _⟩ => rfl⟩
  rw [Layout.block_apply]
  refine (ho i h).trans (congrArg g (funext fun b => Fin.ext ?_))
  match b with
  | ⟨0, _⟩ => exact congrArg (· + i.val) (Nat.mul_comm 64 c.val)
  | ⟨1, _⟩ => rfl

end Cert.KernelIdealProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import proofs.«01_k».proof.Proof.KFinal
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The printed kernel ends, leaves its arguments as they were and every counter at zero. -/
theorem frame_k : Cert.quiescent_Kernel := fun m ρ _ =>
  (θ_run Cert.Kernel.defs _ _).mono (fun _ h => ⟨fun c => (h.1 c).2, h.2⟩) (Cert.KernelProof.run_out (F := Bits) m ρ)

/-- The ideal kernel ends, leaves its arguments as they were and every counter at zero. -/
theorem frame_ki : Cert.quiescent_KernelIdeal := fun m ρ _ =>
  (θ_run Cert.KernelIdeal.defs _ _).mono (fun _ h => ⟨fun c => (h.1 c).2, h.2⟩) (Cert.KernelIdealProof.run_out (F := Ideal) m ρ)

/-- The reference ends and leaves its arguments as they were; it has no counter. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On extended reals the ideal kernel's results are the blocks of the reference's. -/
theorem algebraic : Cert.algebraic_KernelIdeal_ReferenceIdeal := by
  intro m ρ m' ρ' _ ha
  refine ⟨Cert.ReferenceIdeal.Value.res_main_v46 (F := Ideal) m' 0, ?_, ?_⟩
  · refine (θ_run Cert.KernelIdeal.defs _ _).mono (fun r h c => ⟨(h.1 c).1.trans ?_, (h.1 c).2⟩)
      (Cert.KernelIdealProof.run_out (F := Ideal) m ρ)
    rw [Cert.ReferenceIdealProof.res_eq]
    exact Cert.KernelIdealProof.out_block m ρ _ _ _ _ _ (fun s => (ha s).1) (fun s => (ha s).2.1) (fun s => (ha s).2.2.1)
      (fun s => (ha s).2.2.2.1) (fun s => (ha s).2.2.2.2) c
  · exact (θ_run Cert.ReferenceIdeal.defs _ _).mono (fun r h => h 0) (Cert.ReferenceIdeal.Value.run (F := Ideal) m' ρ')

theorem claim : Cert.Claim := ⟨Cert.Kernel.Gen.facts, Cert.KernelIdeal.Gen.facts, Cert.ReferenceIdeal.Gen.facts,
  frame_k, frame_ki, frame_ri, trivial, algebraic⟩

end Cert.Proof

end
